-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeAll (m : (ℓ : Loc Cert.MergeAll.nD Cert.MergeAll.τ Cert.MergeAll.sig) → Buf (Elt Bits) ℓ) : Prop :=
  True

def Pre_MergeAllIdeal (m : (ℓ : Loc Cert.MergeAllIdeal.nD Cert.MergeAllIdeal.τ Cert.MergeAllIdeal.sig) → Buf (Elt Ideal) ℓ) : Prop :=
  True

def Pre_MergeAllRefIdeal (m : (ℓ : Loc Cert.MergeAllRefIdeal.nD Cert.MergeAllRefIdeal.τ Cert.MergeAllRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_MergeAll [hMergeAll : Cert.MergeAll.Facts] : Prop :=
  ∀ (m : (ℓ : Loc Cert.MergeAll.nD Cert.MergeAll.τ Cert.MergeAll.sig) → Buf (Elt Bits) ℓ) (g : Dev Cert.MergeAll.nD → PrngReg), Pre_MergeAll m →
    θ_run (Cert.MergeAll.defs (F := Bits)) (onTc (τ := Cert.MergeAll.τ) (Cert.MergeAll.main (F := Bits))) ⟨m, fun _ => 0, g⟩ (fun r => (∀ c : Dev Cert.MergeAll.nD,
      r.2.mem ((c.tc : Thread Cert.MergeAll.nD Cert.MergeAll.τ).loc Cert.MergeAll.main_arg0) = m ((c.tc : Thread Cert.MergeAll.nD Cert.MergeAll.τ).loc Cert.MergeAll.main_arg0)
      ∧ r.2.mem ((c.tc : Thread Cert.MergeAll.nD Cert.MergeAll.τ).loc Cert.MergeAll.main_arg1) = m ((c.tc : Thread Cert.MergeAll.nD Cert.MergeAll.τ).loc Cert.MergeAll.main_arg1)
      ∧ r.2.mem ((c.tc : Thread Cert.MergeAll.nD Cert.MergeAll.τ).loc Cert.MergeAll.main_arg2) = m ((c.tc : Thread Cert.MergeAll.nD Cert.MergeAll.τ).loc Cert.MergeAll.main_arg2)
      ∧ r.2.mem ((c.tc : Thread Cert.MergeAll.nD Cert.MergeAll.τ).loc Cert.MergeAll.main_arg3) = m ((c.tc : Thread Cert.MergeAll.nD Cert.MergeAll.τ).loc Cert.MergeAll.main_arg3)
      ∧ r.2.mem ((c.tc : Thread Cert.MergeAll.nD Cert.MergeAll.τ).loc Cert.MergeAll.main_arg4) = m ((c.tc : Thread Cert.MergeAll.nD Cert.MergeAll.τ).loc Cert.MergeAll.main_arg4)
      ∧ r.2.mem ((c.tc : Thread Cert.MergeAll.nD Cert.MergeAll.τ).loc Cert.MergeAll.main_arg5) = m ((c.tc : Thread Cert.MergeAll.nD Cert.MergeAll.τ).loc Cert.MergeAll.main_arg5)
      ∧ r.2.mem ((c.tc : Thread Cert.MergeAll.nD Cert.MergeAll.τ).loc Cert.MergeAll.main_arg6) = m ((c.tc : Thread Cert.MergeAll.nD Cert.MergeAll.τ).loc Cert.MergeAll.main_arg6)
      ∧ r.2.mem ((c.tc : Thread Cert.MergeAll.nD Cert.MergeAll.τ).loc Cert.MergeAll.main_arg7) = m ((c.tc : Thread Cert.MergeAll.nD Cert.MergeAll.τ).loc Cert.MergeAll.main_arg7)
      ∧ r.2.mem ((c.tc : Thread Cert.MergeAll.nD Cert.MergeAll.τ).loc Cert.MergeAll.main_arg8) = m ((c.tc : Thread Cert.MergeAll.nD Cert.MergeAll.τ).loc Cert.MergeAll.main_arg8)
      ∧ r.2.mem ((c.tc : Thread Cert.MergeAll.nD Cert.MergeAll.τ).loc Cert.MergeAll.main_arg9) = m ((c.tc : Thread Cert.MergeAll.nD Cert.MergeAll.τ).loc Cert.MergeAll.main_arg9)
      ∧ r.2.mem ((c.tc : Thread Cert.MergeAll.nD Cert.MergeAll.τ).loc Cert.MergeAll.main_arg10) = m ((c.tc : Thread Cert.MergeAll.nD Cert.MergeAll.τ).loc Cert.MergeAll.main_arg10)
      ∧ r.2.mem ((c.tc : Thread Cert.MergeAll.nD Cert.MergeAll.τ).loc Cert.MergeAll.main_arg11) = m ((c.tc : Thread Cert.MergeAll.nD Cert.MergeAll.τ).loc Cert.MergeAll.main_arg11))
      ∧ r.2.sem = fun _ => 0)

def quiescent_MergeAllIdeal [hMergeAllIdeal : Cert.MergeAllIdeal.Facts] : Prop :=
  ∀ (m : (ℓ : Loc Cert.MergeAllIdeal.nD Cert.MergeAllIdeal.τ Cert.MergeAllIdeal.sig) → Buf (Elt Ideal) ℓ) (g : Dev Cert.MergeAllIdeal.nD → PrngReg), Pre_MergeAllIdeal m →
    θ_run (Cert.MergeAllIdeal.defs (F := Ideal)) (onTc (τ := Cert.MergeAllIdeal.τ) (Cert.MergeAllIdeal.main (F := Ideal))) ⟨m, fun _ => 0, g⟩ (fun r => (∀ c : Dev Cert.MergeAllIdeal.nD,
      r.2.mem ((c.tc : Thread Cert.MergeAllIdeal.nD Cert.MergeAllIdeal.τ).loc Cert.MergeAllIdeal.main_arg0) = m ((c.tc : Thread Cert.MergeAllIdeal.nD Cert.MergeAllIdeal.τ).loc Cert.MergeAllIdeal.main_arg0)
      ∧ r.2.mem ((c.tc : Thread Cert.MergeAllIdeal.nD Cert.MergeAllIdeal.τ).loc Cert.MergeAllIdeal.main_arg1) = m ((c.tc : Thread Cert.MergeAllIdeal.nD Cert.MergeAllIdeal.τ).loc Cert.MergeAllIdeal.main_arg1)
      ∧ r.2.mem ((c.tc : Thread Cert.MergeAllIdeal.nD Cert.MergeAllIdeal.τ).loc Cert.MergeAllIdeal.main_arg2) = m ((c.tc : Thread Cert.MergeAllIdeal.nD Cert.MergeAllIdeal.τ).loc Cert.MergeAllIdeal.main_arg2)
      ∧ r.2.mem ((c.tc : Thread Cert.MergeAllIdeal.nD Cert.MergeAllIdeal.τ).loc Cert.MergeAllIdeal.main_arg3) = m ((c.tc : Thread Cert.MergeAllIdeal.nD Cert.MergeAllIdeal.τ).loc Cert.MergeAllIdeal.main_arg3)
      ∧ r.2.mem ((c.tc : Thread Cert.MergeAllIdeal.nD Cert.MergeAllIdeal.τ).loc Cert.MergeAllIdeal.main_arg4) = m ((c.tc : Thread Cert.MergeAllIdeal.nD Cert.MergeAllIdeal.τ).loc Cert.MergeAllIdeal.main_arg4)
      ∧ r.2.mem ((c.tc : Thread Cert.MergeAllIdeal.nD Cert.MergeAllIdeal.τ).loc Cert.MergeAllIdeal.main_arg5) = m ((c.tc : Thread Cert.MergeAllIdeal.nD Cert.MergeAllIdeal.τ).loc Cert.MergeAllIdeal.main_arg5)
      ∧ r.2.mem ((c.tc : Thread Cert.MergeAllIdeal.nD Cert.MergeAllIdeal.τ).loc Cert.MergeAllIdeal.main_arg6) = m ((c.tc : Thread Cert.MergeAllIdeal.nD Cert.MergeAllIdeal.τ).loc Cert.MergeAllIdeal.main_arg6)
      ∧ r.2.mem ((c.tc : Thread Cert.MergeAllIdeal.nD Cert.MergeAllIdeal.τ).loc Cert.MergeAllIdeal.main_arg7) = m ((c.tc : Thread Cert.MergeAllIdeal.nD Cert.MergeAllIdeal.τ).loc Cert.MergeAllIdeal.main_arg7)
      ∧ r.2.mem ((c.tc : Thread Cert.MergeAllIdeal.nD Cert.MergeAllIdeal.τ).loc Cert.MergeAllIdeal.main_arg8) = m ((c.tc : Thread Cert.MergeAllIdeal.nD Cert.MergeAllIdeal.τ).loc Cert.MergeAllIdeal.main_arg8)
      ∧ r.2.mem ((c.tc : Thread Cert.MergeAllIdeal.nD Cert.MergeAllIdeal.τ).loc Cert.MergeAllIdeal.main_arg9) = m ((c.tc : Thread Cert.MergeAllIdeal.nD Cert.MergeAllIdeal.τ).loc Cert.MergeAllIdeal.main_arg9)
      ∧ r.2.mem ((c.tc : Thread Cert.MergeAllIdeal.nD Cert.MergeAllIdeal.τ).loc Cert.MergeAllIdeal.main_arg10) = m ((c.tc : Thread Cert.MergeAllIdeal.nD Cert.MergeAllIdeal.τ).loc Cert.MergeAllIdeal.main_arg10)
      ∧ r.2.mem ((c.tc : Thread Cert.MergeAllIdeal.nD Cert.MergeAllIdeal.τ).loc Cert.MergeAllIdeal.main_arg11) = m ((c.tc : Thread Cert.MergeAllIdeal.nD Cert.MergeAllIdeal.τ).loc Cert.MergeAllIdeal.main_arg11))
      ∧ r.2.sem = fun _ => 0)

def quiescent_MergeAllRefIdeal [hMergeAllRefIdeal : Cert.MergeAllRefIdeal.Facts] : Prop :=
  ∀ (m : (ℓ : Loc Cert.MergeAllRefIdeal.nD Cert.MergeAllRefIdeal.τ Cert.MergeAllRefIdeal.sig) → Buf (Elt Ideal) ℓ) (g : Dev Cert.MergeAllRefIdeal.nD → PrngReg), Pre_MergeAllRefIdeal m →
    θ_run (Cert.MergeAllRefIdeal.defs (F := Ideal)) (onTc (τ := Cert.MergeAllRefIdeal.τ) (Cert.MergeAllRefIdeal.main (F := Ideal))) ⟨m, fun _ => 0, g⟩ (fun r => (∀ c : Dev Cert.MergeAllRefIdeal.nD,
      r.2.mem ((c.tc : Thread Cert.MergeAllRefIdeal.nD Cert.MergeAllRefIdeal.τ).loc Cert.MergeAllRefIdeal.main_arg0) = m ((c.tc : Thread Cert.MergeAllRefIdeal.nD Cert.MergeAllRefIdeal.τ).loc Cert.MergeAllRefIdeal.main_arg0)
      ∧ r.2.mem ((c.tc : Thread Cert.MergeAllRefIdeal.nD Cert.MergeAllRefIdeal.τ).loc Cert.MergeAllRefIdeal.main_arg1) = m ((c.tc : Thread Cert.MergeAllRefIdeal.nD Cert.MergeAllRefIdeal.τ).loc Cert.MergeAllRefIdeal.main_arg1)
      ∧ r.2.mem ((c.tc : Thread Cert.MergeAllRefIdeal.nD Cert.MergeAllRefIdeal.τ).loc Cert.MergeAllRefIdeal.main_arg2) = m ((c.tc : Thread Cert.MergeAllRefIdeal.nD Cert.MergeAllRefIdeal.τ).loc Cert.MergeAllRefIdeal.main_arg2)
      ∧ r.2.mem ((c.tc : Thread Cert.MergeAllRefIdeal.nD Cert.MergeAllRefIdeal.τ).loc Cert.MergeAllRefIdeal.main_arg3) = m ((c.tc : Thread Cert.MergeAllRefIdeal.nD Cert.MergeAllRefIdeal.τ).loc Cert.MergeAllRefIdeal.main_arg3)
      ∧ r.2.mem ((c.tc : Thread Cert.MergeAllRefIdeal.nD Cert.MergeAllRefIdeal.τ).loc Cert.MergeAllRefIdeal.main_arg4) = m ((c.tc : Thread Cert.MergeAllRefIdeal.nD Cert.MergeAllRefIdeal.τ).loc Cert.MergeAllRefIdeal.main_arg4)
      ∧ r.2.mem ((c.tc : Thread Cert.MergeAllRefIdeal.nD Cert.MergeAllRefIdeal.τ).loc Cert.MergeAllRefIdeal.main_arg5) = m ((c.tc : Thread Cert.MergeAllRefIdeal.nD Cert.MergeAllRefIdeal.τ).loc Cert.MergeAllRefIdeal.main_arg5)
      ∧ r.2.mem ((c.tc : Thread Cert.MergeAllRefIdeal.nD Cert.MergeAllRefIdeal.τ).loc Cert.MergeAllRefIdeal.main_arg6) = m ((c.tc : Thread Cert.MergeAllRefIdeal.nD Cert.MergeAllRefIdeal.τ).loc Cert.MergeAllRefIdeal.main_arg6)
      ∧ r.2.mem ((c.tc : Thread Cert.MergeAllRefIdeal.nD Cert.MergeAllRefIdeal.τ).loc Cert.MergeAllRefIdeal.main_arg7) = m ((c.tc : Thread Cert.MergeAllRefIdeal.nD Cert.MergeAllRefIdeal.τ).loc Cert.MergeAllRefIdeal.main_arg7)
      ∧ r.2.mem ((c.tc : Thread Cert.MergeAllRefIdeal.nD Cert.MergeAllRefIdeal.τ).loc Cert.MergeAllRefIdeal.main_arg8) = m ((c.tc : Thread Cert.MergeAllRefIdeal.nD Cert.MergeAllRefIdeal.τ).loc Cert.MergeAllRefIdeal.main_arg8)
      ∧ r.2.mem ((c.tc : Thread Cert.MergeAllRefIdeal.nD Cert.MergeAllRefIdeal.τ).loc Cert.MergeAllRefIdeal.main_arg9) = m ((c.tc : Thread Cert.MergeAllRefIdeal.nD Cert.MergeAllRefIdeal.τ).loc Cert.MergeAllRefIdeal.main_arg9)
      ∧ r.2.mem ((c.tc : Thread Cert.MergeAllRefIdeal.nD Cert.MergeAllRefIdeal.τ).loc Cert.MergeAllRefIdeal.main_arg10) = m ((c.tc : Thread Cert.MergeAllRefIdeal.nD Cert.MergeAllRefIdeal.τ).loc Cert.MergeAllRefIdeal.main_arg10)
      ∧ r.2.mem ((c.tc : Thread Cert.MergeAllRefIdeal.nD Cert.MergeAllRefIdeal.τ).loc Cert.MergeAllRefIdeal.main_arg11) = m ((c.tc : Thread Cert.MergeAllRefIdeal.nD Cert.MergeAllRefIdeal.τ).loc Cert.MergeAllRefIdeal.main_arg11))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_on_latent_rows_pre_finite [hKernelIdeal : Cert.KernelIdeal.Facts] [hReferenceIdeal : Cert.ReferenceIdeal.Facts] [hPre_finite : Cert.Pre_finite.Facts] [hOn_latent_rows : Cert.On_latent_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 8448, 1024]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 8448, 1024]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.ReferenceIdeal.nD Cert.ReferenceIdeal.τ).loc Cert.ReferenceIdeal.main_v70) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v58) = v0 c
          ∧ r.2.mem ((c.tc : Thread Cert.InProjRefIdeal.nD Cert.InProjRefIdeal.τ).loc Cert.InProjRefIdeal.main_v60) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Merge_MergeIdeal : Prop :=
  IdealRules.named_const.Statement Cert.MergeIdeal.κ "neg_log2e" .f32 0xBFB8AA3B#32 ((-((Real.log 2)⁻¹) : ℝ) : EReal)

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v100) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_MergeAll_MergeAllIdeal : Prop :=
  IdealRules.named_const.Statement Cert.MergeAllIdeal.κ "neg_log2e" .f32 0xBFB8AA3B#32 ((-((Real.log 2)⁻¹) : ℝ) : EReal)

def algebraic_MergeAllIdeal_MergeAllRefIdeal [hMergeAllIdeal : Cert.MergeAllIdeal.Facts] [hMergeAllRefIdeal : Cert.MergeAllRefIdeal.Facts] : Prop :=
  ∀ (m : (ℓ : Loc Cert.MergeAllIdeal.nD Cert.MergeAllIdeal.τ Cert.MergeAllIdeal.sig) → Buf (Elt Ideal) ℓ) (g : Dev Cert.MergeAllIdeal.nD → PrngReg)
    (m' : (ℓ : Loc Cert.MergeAllRefIdeal.nD Cert.MergeAllRefIdeal.τ Cert.MergeAllRefIdeal.sig) → Buf (Elt Ideal) ℓ) (g' : Dev Cert.MergeAllRefIdeal.nD → PrngReg), Pre_MergeAllIdeal m →
    (∀ c : Dev Cert.MergeAllIdeal.nD,
      m' ((c.tc : Thread Cert.MergeAllRefIdeal.nD Cert.MergeAllRefIdeal.τ).loc Cert.MergeAllRefIdeal.main_arg0) = m ((c.tc : Thread Cert.MergeAllIdeal.nD Cert.MergeAllIdeal.τ).loc Cert.MergeAllIdeal.main_arg0)
      ∧ m' ((c.tc : Thread Cert.MergeAllRefIdeal.nD Cert.MergeAllRefIdeal.τ).loc Cert.MergeAllRefIdeal.main_arg1) = m ((c.tc : Thread Cert.MergeAllIdeal.nD Cert.MergeAllIdeal.τ).loc Cert.MergeAllIdeal.main_arg1)
      ∧ m' ((c.tc : Thread Cert.MergeAllRefIdeal.nD Cert.MergeAllRefIdeal.τ).loc Cert.MergeAllRefIdeal.main_arg2) = m ((c.tc : Thread Cert.MergeAllIdeal.nD Cert.MergeAllIdeal.τ).loc Cert.MergeAllIdeal.main_arg2)
      ∧ m' ((c.tc : Thread Cert.MergeAllRefIdeal.nD Cert.MergeAllRefIdeal.τ).loc Cert.MergeAllRefIdeal.main_arg3) = m ((c.tc : Thread Cert.MergeAllIdeal.nD Cert.MergeAllIdeal.τ).loc Cert.MergeAllIdeal.main_arg3)
      ∧ m' ((c.tc : Thread Cert.MergeAllRefIdeal.nD Cert.MergeAllRefIdeal.τ).loc Cert.MergeAllRefIdeal.main_arg4) = m ((c.tc : Thread Cert.MergeAllIdeal.nD Cert.MergeAllIdeal.τ).loc Cert.MergeAllIdeal.main_arg4)
      ∧ m' ((c.tc : Thread Cert.MergeAllRefIdeal.nD Cert.MergeAllRefIdeal.τ).loc Cert.MergeAllRefIdeal.main_arg5) = m ((c.tc : Thread Cert.MergeAllIdeal.nD Cert.MergeAllIdeal.τ).loc Cert.MergeAllIdeal.main_arg5)
      ∧ m' ((c.tc : Thread Cert.MergeAllRefIdeal.nD Cert.MergeAllRefIdeal.τ).loc Cert.MergeAllRefIdeal.main_arg6) = m ((c.tc : Thread Cert.MergeAllIdeal.nD Cert.MergeAllIdeal.τ).loc Cert.MergeAllIdeal.main_arg6)
      ∧ m' ((c.tc : Thread Cert.MergeAllRefIdeal.nD Cert.MergeAllRefIdeal.τ).loc Cert.MergeAllRefIdeal.main_arg7) = m ((c.tc : Thread Cert.MergeAllIdeal.nD Cert.MergeAllIdeal.τ).loc Cert.MergeAllIdeal.main_arg7)
      ∧ m' ((c.tc : Thread Cert.MergeAllRefIdeal.nD Cert.MergeAllRefIdeal.τ).loc Cert.MergeAllRefIdeal.main_arg8) = m ((c.tc : Thread Cert.MergeAllIdeal.nD Cert.MergeAllIdeal.τ).loc Cert.MergeAllIdeal.main_arg8)
      ∧ m' ((c.tc : Thread Cert.MergeAllRefIdeal.nD Cert.MergeAllRefIdeal.τ).loc Cert.MergeAllRefIdeal.main_arg9) = m ((c.tc : Thread Cert.MergeAllIdeal.nD Cert.MergeAllIdeal.τ).loc Cert.MergeAllIdeal.main_arg9)
      ∧ m' ((c.tc : Thread Cert.MergeAllRefIdeal.nD Cert.MergeAllRefIdeal.τ).loc Cert.MergeAllRefIdeal.main_arg10) = m ((c.tc : Thread Cert.MergeAllIdeal.nD Cert.MergeAllIdeal.τ).loc Cert.MergeAllIdeal.main_arg10)
      ∧ m' ((c.tc : Thread Cert.MergeAllRefIdeal.nD Cert.MergeAllRefIdeal.τ).loc Cert.MergeAllRefIdeal.main_arg11) = m ((c.tc : Thread Cert.MergeAllIdeal.nD Cert.MergeAllIdeal.τ).loc Cert.MergeAllIdeal.main_arg11)) →
    ∃ (v0 : (c : Dev Cert.MergeAllIdeal.nD) → Buf (Elt Ideal) ((c.tc : Thread Cert.MergeAllIdeal.nD Cert.MergeAllIdeal.τ).loc Cert.MergeAllIdeal.main_v0)),
      θ_run (Cert.MergeAllIdeal.defs (F := Ideal)) (onTc (τ := Cert.MergeAllIdeal.τ) (Cert.MergeAllIdeal.main (F := Ideal))) ⟨m, fun _ => 0, g⟩ (fun r => ∀ c : Dev Cert.MergeAllIdeal.nD,
          r.2.mem ((c.tc : Thread Cert.MergeAllIdeal.nD Cert.MergeAllIdeal.τ).loc Cert.MergeAllIdeal.main_v0) = v0 c
          ∧ r.2.mem ((c.tc : Thread Cert.MergeAllIdeal.nD Cert.MergeAllIdeal.τ).loc Cert.MergeAllIdeal.main_arg0) = m ((c.tc : Thread Cert.MergeAllIdeal.nD Cert.MergeAllIdeal.τ).loc Cert.MergeAllIdeal.main_arg0)
          ∧ r.2.mem ((c.tc : Thread Cert.MergeAllIdeal.nD Cert.MergeAllIdeal.τ).loc Cert.MergeAllIdeal.main_arg1) = m ((c.tc : Thread Cert.MergeAllIdeal.nD Cert.MergeAllIdeal.τ).loc Cert.MergeAllIdeal.main_arg1)
          ∧ r.2.mem ((c.tc : Thread Cert.MergeAllIdeal.nD Cert.MergeAllIdeal.τ).loc Cert.MergeAllIdeal.main_arg2) = m ((c.tc : Thread Cert.MergeAllIdeal.nD Cert.MergeAllIdeal.τ).loc Cert.MergeAllIdeal.main_arg2)
          ∧ r.2.mem ((c.tc : Thread Cert.MergeAllIdeal.nD Cert.MergeAllIdeal.τ).loc Cert.MergeAllIdeal.main_arg3) = m ((c.tc : Thread Cert.MergeAllIdeal.nD Cert.MergeAllIdeal.τ).loc Cert.MergeAllIdeal.main_arg3)
          ∧ r.2.mem ((c.tc : Thread Cert.MergeAllIdeal.nD Cert.MergeAllIdeal.τ).loc Cert.MergeAllIdeal.main_arg4) = m ((c.tc : Thread Cert.MergeAllIdeal.nD Cert.MergeAllIdeal.τ).loc Cert.MergeAllIdeal.main_arg4)
          ∧ r.2.mem ((c.tc : Thread Cert.MergeAllIdeal.nD Cert.MergeAllIdeal.τ).loc Cert.MergeAllIdeal.main_arg5) = m ((c.tc : Thread Cert.MergeAllIdeal.nD Cert.MergeAllIdeal.τ).loc Cert.MergeAllIdeal.main_arg5)
          ∧ r.2.mem ((c.tc : Thread Cert.MergeAllIdeal.nD Cert.MergeAllIdeal.τ).loc Cert.MergeAllIdeal.main_arg6) = m ((c.tc : Thread Cert.MergeAllIdeal.nD Cert.MergeAllIdeal.τ).loc Cert.MergeAllIdeal.main_arg6)
          ∧ r.2.mem ((c.tc : Thread Cert.MergeAllIdeal.nD Cert.MergeAllIdeal.τ).loc Cert.MergeAllIdeal.main_arg7) = m ((c.tc : Thread Cert.MergeAllIdeal.nD Cert.MergeAllIdeal.τ).loc Cert.MergeAllIdeal.main_arg7)
          ∧ r.2.mem ((c.tc : Thread Cert.MergeAllIdeal.nD Cert.MergeAllIdeal.τ).loc Cert.MergeAllIdeal.main_arg8) = m ((c.tc : Thread Cert.MergeAllIdeal.nD Cert.MergeAllIdeal.τ).loc Cert.MergeAllIdeal.main_arg8)
          ∧ r.2.mem ((c.tc : Thread Cert.MergeAllIdeal.nD Cert.MergeAllIdeal.τ).loc Cert.MergeAllIdeal.main_arg9) = m ((c.tc : Thread Cert.MergeAllIdeal.nD Cert.MergeAllIdeal.τ).loc Cert.MergeAllIdeal.main_arg9)
          ∧ r.2.mem ((c.tc : Thread Cert.MergeAllIdeal.nD Cert.MergeAllIdeal.τ).loc Cert.MergeAllIdeal.main_arg10) = m ((c.tc : Thread Cert.MergeAllIdeal.nD Cert.MergeAllIdeal.τ).loc Cert.MergeAllIdeal.main_arg10)
          ∧ r.2.mem ((c.tc : Thread Cert.MergeAllIdeal.nD Cert.MergeAllIdeal.τ).loc Cert.MergeAllIdeal.main_arg11) = m ((c.tc : Thread Cert.MergeAllIdeal.nD Cert.MergeAllIdeal.τ).loc Cert.MergeAllIdeal.main_arg11))
      ∧ θ_run (Cert.MergeAllRefIdeal.defs (F := Ideal)) (onTc (τ := Cert.MergeAllRefIdeal.τ) (Cert.MergeAllRefIdeal.main (F := Ideal))) ⟨m', fun _ => 0, g'⟩ (fun r => ∀ c : Dev Cert.MergeAllRefIdeal.nD,
          r.2.mem ((c.tc : Thread Cert.MergeAllRefIdeal.nD Cert.MergeAllRefIdeal.τ).loc Cert.MergeAllRefIdeal.main_v105) = v0 c
          ∧ r.2.mem ((c.tc : Thread Cert.MergeAllRefIdeal.nD Cert.MergeAllRefIdeal.τ).loc Cert.MergeAllRefIdeal.main_arg0) = m' ((c.tc : Thread Cert.MergeAllRefIdeal.nD Cert.MergeAllRefIdeal.τ).loc Cert.MergeAllRefIdeal.main_arg0)
          ∧ r.2.mem ((c.tc : Thread Cert.MergeAllRefIdeal.nD Cert.MergeAllRefIdeal.τ).loc Cert.MergeAllRefIdeal.main_arg1) = m' ((c.tc : Thread Cert.MergeAllRefIdeal.nD Cert.MergeAllRefIdeal.τ).loc Cert.MergeAllRefIdeal.main_arg1)
          ∧ r.2.mem ((c.tc : Thread Cert.MergeAllRefIdeal.nD Cert.MergeAllRefIdeal.τ).loc Cert.MergeAllRefIdeal.main_arg2) = m' ((c.tc : Thread Cert.MergeAllRefIdeal.nD Cert.MergeAllRefIdeal.τ).loc Cert.MergeAllRefIdeal.main_arg2)
          ∧ r.2.mem ((c.tc : Thread Cert.MergeAllRefIdeal.nD Cert.MergeAllRefIdeal.τ).loc Cert.MergeAllRefIdeal.main_arg3) = m' ((c.tc : Thread Cert.MergeAllRefIdeal.nD Cert.MergeAllRefIdeal.τ).loc Cert.MergeAllRefIdeal.main_arg3)
          ∧ r.2.mem ((c.tc : Thread Cert.MergeAllRefIdeal.nD Cert.MergeAllRefIdeal.τ).loc Cert.MergeAllRefIdeal.main_arg4) = m' ((c.tc : Thread Cert.MergeAllRefIdeal.nD Cert.MergeAllRefIdeal.τ).loc Cert.MergeAllRefIdeal.main_arg4)
          ∧ r.2.mem ((c.tc : Thread Cert.MergeAllRefIdeal.nD Cert.MergeAllRefIdeal.τ).loc Cert.MergeAllRefIdeal.main_arg5) = m' ((c.tc : Thread Cert.MergeAllRefIdeal.nD Cert.MergeAllRefIdeal.τ).loc Cert.MergeAllRefIdeal.main_arg5)
          ∧ r.2.mem ((c.tc : Thread Cert.MergeAllRefIdeal.nD Cert.MergeAllRefIdeal.τ).loc Cert.MergeAllRefIdeal.main_arg6) = m' ((c.tc : Thread Cert.MergeAllRefIdeal.nD Cert.MergeAllRefIdeal.τ).loc Cert.MergeAllRefIdeal.main_arg6)
          ∧ r.2.mem ((c.tc : Thread Cert.MergeAllRefIdeal.nD Cert.MergeAllRefIdeal.τ).loc Cert.MergeAllRefIdeal.main_arg7) = m' ((c.tc : Thread Cert.MergeAllRefIdeal.nD Cert.MergeAllRefIdeal.τ).loc Cert.MergeAllRefIdeal.main_arg7)
          ∧ r.2.mem ((c.tc : Thread Cert.MergeAllRefIdeal.nD Cert.MergeAllRefIdeal.τ).loc Cert.MergeAllRefIdeal.main_arg8) = m' ((c.tc : Thread Cert.MergeAllRefIdeal.nD Cert.MergeAllRefIdeal.τ).loc Cert.MergeAllRefIdeal.main_arg8)
          ∧ r.2.mem ((c.tc : Thread Cert.MergeAllRefIdeal.nD Cert.MergeAllRefIdeal.τ).loc Cert.MergeAllRefIdeal.main_arg9) = m' ((c.tc : Thread Cert.MergeAllRefIdeal.nD Cert.MergeAllRefIdeal.τ).loc Cert.MergeAllRefIdeal.main_arg9)
          ∧ r.2.mem ((c.tc : Thread Cert.MergeAllRefIdeal.nD Cert.MergeAllRefIdeal.τ).loc Cert.MergeAllRefIdeal.main_arg10) = m' ((c.tc : Thread Cert.MergeAllRefIdeal.nD Cert.MergeAllRefIdeal.τ).loc Cert.MergeAllRefIdeal.main_arg10)
          ∧ r.2.mem ((c.tc : Thread Cert.MergeAllRefIdeal.nD Cert.MergeAllRefIdeal.τ).loc Cert.MergeAllRefIdeal.main_arg11) = m' ((c.tc : Thread Cert.MergeAllRefIdeal.nD Cert.MergeAllRefIdeal.τ).loc Cert.MergeAllRefIdeal.main_arg11))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hMergeAll : Cert.MergeAll.Facts) (hMergeAllIdeal : Cert.MergeAllIdeal.Facts) (hMergeAllRefIdeal : Cert.MergeAllRefIdeal.Facts) (hPre_finite : Cert.Pre_finite.Facts) (hOn_latent_rows : Cert.On_latent_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeAll (hMergeAll := hMergeAll)
    ∧ quiescent_MergeAllIdeal (hMergeAllIdeal := hMergeAllIdeal)
    ∧ quiescent_MergeAllRefIdeal (hMergeAllRefIdeal := hMergeAllRefIdeal)
    ∧ preserves_Kernel_KernelIdeal
    ∧ algebraic_KernelIdeal_ReferenceIdeal_on_latent_rows_pre_finite (hKernelIdeal := hKernelIdeal) (hReferenceIdeal := hReferenceIdeal) (hPre_finite := hPre_finite) (hOn_latent_rows := hOn_latent_rows)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_MergeAll_MergeAllIdeal
    ∧ algebraic_MergeAllIdeal_MergeAllRefIdeal (hMergeAllIdeal := hMergeAllIdeal) (hMergeAllRefIdeal := hMergeAllRefIdeal)
-- ==== On_latent_rows.lean ====
abbrev S4x8448x1024 : Shape := ⟨3, ![4, 8448, 1024]⟩
abbrev S4x8448x13824 : Shape := ⟨3, ![4, 8448, 13824]⟩
abbrev S4x64 : Shape := ⟨2, ![4, 64]⟩
abbrev S1x64 : Shape := ⟨2, ![1, 64]⟩
abbrev S1x128 : Shape := ⟨2, ![1, 128]⟩
abbrev S_ : Shape := ⟨0, ![]⟩

class Facts : Prop where
  bcast_S_S4x8448x1024 : S_.BroadcastsInDim S4x8448x1024 (![] : Fin 0 → Fin S4x8448x1024.rank)

variable [Facts]

def fn {F : FTy → Type} [FloatOps F] (main_arg0 : FVec F S4x8448x1024 .bf16) (main_arg1 : FVec F S4x8448x1024 .bf16) (main_arg2 : FVec F S4x8448x13824 .bf16) (main_arg3 : FVec F S4x64 .f32) (main_arg4 : FVec F S1x64 .f32) (main_arg5 : FVec F S1x64 .f32) (main_arg6 : FVec F S1x128 .f32) : IVec S4x8448x1024 1 :=
  let main_v0 : IVec S4x8448x1024 32 := iotaInDim S4x8448x1024 32 1
  let main_c : IVec S_ 32 := constantI S_ 32 8192#32
  let main_v1 : IVec S4x8448x1024 32 := broadcastInDim S4x8448x1024 ![] bcast_S_S4x8448x1024 main_c
  let main_v2 : IVec S4x8448x1024 1 := cmpi .slt main_v0 main_v1
  main_v2
-- ==== Pre_finite.lean ====
abbrev S4x8448x1024 : Shape := ⟨3, ![4, 8448, 1024]⟩
abbrev S4x8448x13824 : Shape := ⟨3, ![4, 8448, 13824]⟩
abbrev S4x64 : Shape := ⟨2, ![4, 64]⟩
abbrev S1x64 : Shape := ⟨2, ![1, 64]⟩
abbrev S1x128 : Shape := ⟨2, ![1, 128]⟩
abbrev S_ : Shape := ⟨0, ![]⟩

class Facts : Prop where
  bcast_S_S4x8448x1024 : S_.BroadcastsInDim S4x8448x1024 (![] : Fin 0 → Fin S4x8448x1024.rank)
  bcast_S_S4x8448x13824 : S_.BroadcastsInDim S4x8448x13824 (![] : Fin 0 → Fin S4x8448x13824.rank)
  bcast_S_S4x64 : S_.BroadcastsInDim S4x64 (![] : Fin 0 → Fin S4x64.rank)
  bcast_S_S1x64 : S_.BroadcastsInDim S1x64 (![] : Fin 0 → Fin S1x64.rank)

variable [Facts]

def fn {F : FTy → Type} [FloatOps F] (main_arg0 : FVec F S4x8448x1024 .bf16) (main_arg1 : FVec F S4x8448x1024 .bf16) (main_arg2 : FVec F S4x8448x13824 .bf16) (main_arg3 : FVec F S4x64 .f32) (main_arg4 : FVec F S1x64 .f32) (main_arg5 : FVec F S1x64 .f32) (main_arg6 : FVec F S1x128 .f32) : IVec S4x8448x1024 1 × IVec S4x8448x1024 1 × IVec S4x8448x13824 1 × IVec S4x64 1 × IVec S1x64 1 × IVec S1x64 1 :=
  let main_v0 : FVec F S4x8448x1024 .bf16 := Host.absf main_arg0
  let main_cst : FVec F S_ .bf16 := constant S_ .bf16 0x7F80#16
  let main_v1 : FVec F S4x8448x1024 .bf16 := broadcastInDim S4x8448x1024 ![] bcast_S_S4x8448x1024 main_cst
  let main_v2 : IVec S4x8448x1024 1 := cmpf .olt main_v0 main_v1
  let main_v3 : FVec F S4x8448x1024 .bf16 := Host.absf main_arg1
  let main_cst_0 : FVec F S_ .bf16 := constant S_ .bf16 0x7F80#16
  let main_v4 : FVec F S4x8448x1024 .bf16 := broadcastInDim S4x8448x1024 ![] bcast_S_S4x8448x1024 main_cst_0
  let main_v5 : IVec S4x8448x1024 1 := cmpf .olt main_v3 main_v4
  let main_v6 : FVec F S4x8448x13824 .bf16 := Host.absf main_arg2
  let main_cst_1 : FVec F S_ .bf16 := constant S_ .bf16 0x7F80#16
  let main_v7 : FVec F S4x8448x13824 .bf16 := broadcastInDim S4x8448x13824 ![] bcast_S_S4x8448x13824 main_cst_1
  let main_v8 : IVec S4x8448x13824 1 := cmpf .olt main_v6 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  (main_v2, main_v5, main_v8, main_v11, main_v14, main_v17)
-- ==== Kernel.lean ====
abbrev S4x8448x1024 : Shape := ⟨3, ![4, 8448, 1024]⟩
abbrev S4x8448x13824 : Shape := ⟨3, ![4, 8448, 13824]⟩
abbrev S4x64 : Shape := ⟨2, ![4, 64]⟩
abbrev S1x64 : Shape := ⟨2, ![1, 64]⟩
abbrev S1x128 : Shape := ⟨2, ![1, 128]⟩
abbrev S1x1024x128 : Shape := ⟨3, ![1, 1024, 128]⟩
abbrev S1x8448x128 : Shape := ⟨3, ![1, 8448, 128]⟩
abbrev S8448x256 : Shape := ⟨2, ![8448, 256]⟩
abbrev S2x1024x8448 : Shape := ⟨3, ![2, 1024, 8448]⟩
abbrev S8448x128 : Shape := ⟨2, ![8448, 128]⟩
abbrev S1 : Shape := ⟨1, ![1]⟩
abbrev S1x1 : Shape := ⟨2, ![1, 1]⟩
abbrev S1024x128 : Shape := ⟨2, ![1024, 128]⟩
abbrev S1x256x128 : Shape := ⟨3, ![1, 256, 128]⟩
abbrev S256x128 : Shape := ⟨2, ![256, 128]⟩
abbrev S1024x256 : Shape := ⟨2, ![1024, 256]⟩
abbrev S1x1024x256 : Shape := ⟨3, ![1, 1024, 256]⟩
abbrev S1x1024x8448 : Shape := ⟨3, ![1, 1024, 8448]⟩
abbrev S1024x8448 : Shape := ⟨2, ![1024, 8448]⟩
abbrev S1024 : Shape := ⟨1, ![1024]⟩
abbrev S1024x1 : Shape := ⟨2, ![1024, 1]⟩

abbrev nBuf : Space → Nat
  | .hbm => 8
  | .vmem => 16
  | .smem => 0
  | _ => 0

abbrev bufTy : (tb : Table) → Fin (tcTables nBuf tb) → BufTy
  | .hbm, ⟨0, _⟩ => ⟨S4x8448x1024, .bf16⟩
  | .hbm, ⟨1, _⟩ => ⟨S4x8448x1024, .bf16⟩
  | .hbm, ⟨2, _⟩ => ⟨S4x8448x13824, .bf16⟩
  | .hbm, ⟨3, _⟩ => ⟨S4x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S4x8448x1024, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S4x64, .f32⟩
  | .local _ .vmem, ⟨9, _⟩ => ⟨S1x64, .f32⟩
  | .local _ .vmem, ⟨10, _⟩ => ⟨S1x64, .f32⟩
  | .local _ .vmem, ⟨11, _⟩ => ⟨S1x128, .f32⟩
  | .local _ .vmem, ⟨12, _⟩ => ⟨S1x1024x128, .bf16⟩
  | .local _ .vmem, ⟨13, _⟩ => ⟨S1x1024x128, .bf16⟩
  | .local _ .vmem, ⟨14, _⟩ => ⟨S8448x256, .bf16⟩
  | .local _ .vmem, ⟨15, _⟩ => ⟨S2x1024x8448, .bf16⟩
  | _, _ => ⟨S4x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c32_i32 : BitVec 32 := 32#32
  let v1 : BitVec 32 := Scalar.addi c32_i32 arg1
  let c0_i32_0 : BitVec 32 := 0#32
  ![arg0.toNat, v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S4x8448x1024 : Shape := ⟨3, ![4, 8448, 1024]⟩
abbrev S4x8448x13824 : Shape := ⟨3, ![4, 8448, 13824]⟩
abbrev S4x64 : Shape := ⟨2, ![4, 64]⟩
abbrev S1x64 : Shape := ⟨2, ![1, 64]⟩
abbrev S1x128 : Shape := ⟨2, ![1, 128]⟩
abbrev S4x8192x1024 : Shape := ⟨3, ![4, 8192, 1024]⟩
abbrev S4x8192x8x2x64 : Shape := ⟨5, ![4, 8192, 8, 2, 64]⟩
abbrev S4x8448x8x2x64 : Shape := ⟨5, ![4, 8448, 8, 2, 64]⟩
abbrev S4x8448x8x128 : Shape := ⟨4, ![4, 8448, 8, 128]⟩
abbrev S64 : Shape := ⟨1, ![64]⟩
abbrev S_ : Shape := ⟨0, ![]⟩
abbrev S4x8x2x8192x8448 : Shape := ⟨5, ![4, 8, 2, 8192, 8448]⟩
abbrev S4x8x2x8192 : Shape := ⟨4, ![4, 8, 2, 8192]⟩
abbrev S4x8x2x8192x1 : Shape := ⟨5, ![4, 8, 2, 8192, 1]⟩
abbrev S4x8x1x8192x8448 : Shape := ⟨5, ![4, 8, 1, 8192, 8448]⟩
abbrev S4x8x8192x8448 : Shape := ⟨4, ![4, 8, 8192, 8448]⟩
abbrev S4x8x128x8192 : Shape := ⟨4, ![4, 8, 128, 8192]⟩
abbrev S4x8192x8x128 : Shape := ⟨4, ![4, 8192, 8, 128]⟩
abbrev S128 : Shape := ⟨1, ![128]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩

abbrev nBuf : Space → Nat
  | .hbm => 99
  | .vmem => 0
  | .smem => 0
  | _ => 0

abbrev bufTy : (tb : Table) → Fin (tcTables nBuf tb) → BufTy
  | .hbm, ⟨0, _⟩ => ⟨S4x8448x1024, .bf16⟩
  | .hbm, ⟨1, _⟩ => ⟨S4x8448x1024, .bf16⟩
  | .hbm, ⟨2, _⟩ => ⟨S4x8448x13824, .bf16⟩
  | .hbm, ⟨3, _⟩ => ⟨S4x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S4x8192x1024, .bf16⟩
  | .hbm, ⟨8, _⟩ => ⟨S4x8192x1024, .f32⟩
  | .hbm, ⟨9, _⟩ => ⟨S4x8192x8x2x64, .f32⟩
  | .hbm, ⟨10, _⟩ => ⟨S4x8448x1024, .f32⟩
  | .hbm, ⟨11, _⟩ => ⟨S4x8448x8x2x64, .f32⟩
  | .hbm, ⟨12, _⟩ => ⟨S4x8448x1024, .bf16⟩
  | .hbm, ⟨13, _⟩ => ⟨S4x8448x1024, .f32⟩
  | .hbm, ⟨14, _⟩ => ⟨S4x8448x8x128, .f32⟩
  | .hbm, ⟨15, _⟩ => ⟨S4x8192x1024, .bf16⟩
  | .hbm, ⟨16, _⟩ => ⟨S4x8192x1024, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x8x2x8192x8448, .f32⟩
  | .hbm, ⟨37, _⟩ => ⟨S_, .f32⟩
  | .hbm, ⟨38, _⟩ => ⟨S_, .f32⟩
  | .hbm, ⟨39, _⟩ => ⟨S4x8x2x8192x8448, .f32⟩
  | .hbm, ⟨40, _⟩ => ⟨S4x8x2x8192x8448, .f32⟩
  | .hbm, ⟨41, _⟩ => ⟨S_, .f32⟩
  | .hbm, ⟨42, _⟩ => ⟨S4x8x2x8192, .f32⟩
  | .hbm, ⟨43, _⟩ => ⟨S_, .f32⟩
  | .hbm, ⟨44, _⟩ => ⟨S4x8x2x8192, .f32⟩
  | .hbm, ⟨45, _⟩ => ⟨S4x8x2x8192, .f32⟩
  | .hbm, ⟨46, _⟩ => ⟨S4x8x2x8192x1, .f32⟩
  | .hbm, ⟨47, _⟩ => ⟨S4x8x2x8192x8448, .f32⟩
  | .hbm, ⟨48, _⟩ => ⟨S4x8x2x8192x8448, .f32⟩
  | .hbm, ⟨49, _⟩ => ⟨S4x8x2x8192x8448, .f32⟩
  | .hbm, ⟨50, _⟩ => ⟨S_, .f32⟩
  | .hbm, ⟨51, _⟩ => ⟨S4x8x2x8192, .f32⟩
  | .hbm, ⟨52, _⟩ => ⟨S4x8x2x8192x1, .f32⟩
  | .hbm, ⟨53, _⟩ => ⟨S4x8x2x8192x8448, .f32⟩
  | .hbm, ⟨54, _⟩ => ⟨S4x8x2x8192x8448, .f32⟩
  | .hbm, ⟨55, _⟩ => ⟨S4x8x1x8192x8448, .f32⟩
  | .hbm, ⟨56, _⟩ => ⟨S4x8x8192x8448, .f32⟩
  | .hbm, ⟨57, _⟩ => ⟨S4x8x1x8192x8448, .f32⟩
  | .hbm, ⟨58, _⟩ => ⟨S4x8x8192x8448, .f32⟩
  | .hbm, ⟨59, _⟩ => ⟨S4x8x8192x8448, .f32⟩
  | .hbm, ⟨60, _⟩ => ⟨S4x8x8192x8448, .f32⟩
  | .hbm, ⟨61, _⟩ => ⟨S4x8x8192x8448, .f32⟩
  | .hbm, ⟨62, _⟩ => ⟨S4x8x128x8192, .f32⟩
  | .hbm, ⟨63, _⟩ => ⟨S4x8192x8x128, .f32⟩
  | .hbm, ⟨64, _⟩ => ⟨S128, .f32⟩
  | .hbm, ⟨65, _⟩ => ⟨S4x8192x8x128, .f32⟩
  | .hbm, ⟨66, _⟩ => ⟨S_, .f32⟩
  | .hbm, ⟨67, _⟩ => ⟨S4x8192x8, .f32⟩
  | .hbm, ⟨68, _⟩ => ⟨S4x8192x8x1, .f32⟩
  | .hbm, ⟨69, _⟩ => ⟨S_, .f32⟩
  | .hbm, ⟨70, _⟩ => ⟨S4x8192x8x1, .f32⟩
  | .hbm, ⟨71, _⟩ => ⟨S4x8192x8x1, .f32⟩
  | .hbm, ⟨72, _⟩ => ⟨S_, .f32⟩
  | .hbm, ⟨73, _⟩ => ⟨S4x8192x8x1, .f32⟩
  | .hbm, ⟨74, _⟩ => ⟨S4x8192x8x1, .f32⟩
  | .hbm, ⟨75, _⟩ => ⟨S4x8192x8x1, .f32⟩
  | .hbm, ⟨76, _⟩ => ⟨S4x8192x8x128, .f32⟩
  | .hbm, ⟨77, _⟩ => ⟨S4x8192x8x128, .f32⟩
  | .hbm, ⟨78, _⟩ => ⟨S1x1x1x128, .f32⟩
  | .hbm, ⟨79, _⟩ => ⟨S4x8192x8x128, .f32⟩
  | .hbm, ⟨80, _⟩ => ⟨S4x8192x8x128, .f32⟩
  | .hbm, ⟨81, _⟩ => ⟨S_, .f32⟩
  | .hbm, ⟨82, _⟩ => ⟨S4x8192x8x128, .f32⟩
  | .hbm, ⟨83, _⟩ => ⟨S4x8192x8x128, .f32⟩
  | .hbm, ⟨84, _⟩ => ⟨S4x8192x1024, .f32⟩
  | .hbm, ⟨85, _⟩ => ⟨S4x8192x1024, .f32⟩
  | .hbm, ⟨86, _⟩ => ⟨S4x8192x1024, .f32⟩
  | .hbm, ⟨87, _⟩ => ⟨S_, .f32⟩
  | .hbm, ⟨88, _⟩ => ⟨S4x8192x1024, .f32⟩
  | .hbm, ⟨89, _⟩ => ⟨S4x8192x1024, .f32⟩
  | .hbm, ⟨90, _⟩ => ⟨S_, .f32⟩
  | .hbm, ⟨91, _⟩ => ⟨S4x8192x1024, .f32⟩
  | .hbm, ⟨92, _⟩ => ⟨S4x8192x1024, .f32⟩
  | .hbm, ⟨93, _⟩ => ⟨S4x8192x1024, .f32⟩
  | .hbm, ⟨94, _⟩ => ⟨S4x8192x1024, .f32⟩
  | .hbm, ⟨95, _⟩ => ⟨S_, .i32⟩
  | .hbm, ⟨96, _⟩ => ⟨S_, .f32⟩
  | .hbm, ⟨97, _⟩ => ⟨S4x8448x1024, .f32⟩
  | .hbm, ⟨98, _⟩ => ⟨S4x8448x1024, .bf16⟩
  | _, _ => ⟨S4x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_call0_v0 : Ref sig .tc := ⟨.hbm, 85, rfl⟩
abbrev main_call0_v1 : Ref sig .tc := ⟨.hbm, 86, rfl⟩
abbrev main_call0_cst : Ref sig .tc := ⟨.hbm, 87, rfl⟩
abbrev main_call0_v2 : Ref sig .tc := ⟨.hbm, 88, rfl⟩
abbrev main_call0_v3 : Ref sig .tc := ⟨.hbm, 89, rfl⟩
abbrev main_call0_cst_0 : Ref sig .tc := ⟨.hbm, 90, rfl⟩
abbrev main_call0_v4 : Ref sig .tc := ⟨.hbm, 91, rfl⟩
abbrev main_call0_v5 : Ref sig .tc := ⟨.hbm, 92, rfl⟩
abbrev main_v67 : Ref sig .tc := ⟨.hbm, 93, rfl⟩
abbrev main_v68 : Ref sig .tc := ⟨.hbm, 94, rfl⟩
abbrev main_c : Ref sig .tc := ⟨.hbm, 95, rfl⟩
abbrev main_call1_v0 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]
-- ==== InProj.lean ====
abbrev S4x8448x1024 : Shape := ⟨3, ![4, 8448, 1024]⟩
abbrev S8x3072 : Shape := ⟨2, ![8, 3072]⟩
abbrev S1x1024 : Shape := ⟨2, ![1, 1024]⟩
abbrev S1024x13824 : Shape := ⟨2, ![1024, 13824]⟩
abbrev S1024x128 : Shape := ⟨2, ![1024, 128]⟩
abbrev S4x8448x13824 : Shape := ⟨3, ![4, 8448, 13824]⟩
abbrev S4x8448x128 : Shape := ⟨3, ![4, 8448, 128]⟩
abbrev S1x1056x1024 : Shape := ⟨3, ![1, 1056, 1024]⟩
abbrev S1024x3456 : Shape := ⟨2, ![1024, 3456]⟩
abbrev S1x1056x3456 : Shape := ⟨3, ![1, 1056, 3456]⟩
abbrev S1x1056x128 : Shape := ⟨3, ![1, 1056, 128]⟩
abbrev S1056x1024 : Shape := ⟨2, ![1056, 1024]⟩
abbrev S1056 : Shape := ⟨1, ![1056]⟩
abbrev S1056x1 : Shape := ⟨2, ![1056, 1]⟩
abbrev S1x3072 : Shape := ⟨2, ![1, 3072]⟩
abbrev S1056x128 : Shape := ⟨2, ![1056, 128]⟩
abbrev S1056x3456 : Shape := ⟨2, ![1056, 3456]⟩

abbrev nBuf : Space → Nat
  | .hbm => 7
  | .vmem => 12
  | .smem => 0
  | _ => 0

abbrev bufTy : (tb : Table) → Fin (tcTables nBuf tb) → BufTy
  | .hbm, ⟨0, _⟩ => ⟨S4x8448x1024, .f32⟩
  | .hbm, ⟨1, _⟩ => ⟨S8x3072, .f32⟩
  | .hbm, ⟨2, _⟩ => ⟨S1x1024, .f32⟩
  | .hbm, ⟨3, _⟩ => ⟨S1024x13824, .bf16⟩
  | .hbm, ⟨4, _⟩ => ⟨S1024x128, .bf16⟩
  | .hbm, ⟨5, _⟩ => ⟨S4x8448x13824, .bf16⟩
  | .hbm, ⟨6, _⟩ => ⟨S4x8448x128, .f32⟩
  | .local _ .vmem, ⟨0, _⟩ => ⟨S1x1056x1024, .f32⟩
  | .local _ .vmem, ⟨1, _⟩ => ⟨S1x1056x1024, .f32⟩
  | .local _ .vmem, ⟨2, _⟩ => ⟨S8x3072, .f32⟩
  | .local _ .vmem, ⟨3, _⟩ => ⟨S1x1024, .f32⟩
  | .local _ .vmem, ⟨4, _⟩ => ⟨S1024x3456, .bf16⟩
  | .local _ .vmem, ⟨5, _⟩ => ⟨S1024x3456, .bf16⟩
  | .local _ .vmem, ⟨6, _⟩ => ⟨S1024x128, .bf16⟩
  | .local _ .vmem, ⟨7, _⟩ => ⟨S1x1056x3456, .bf16⟩
  | .local _ .vmem, ⟨8, _⟩ => ⟨S1x1056x3456, .bf16⟩
  | .local _ .vmem, ⟨9, _⟩ => ⟨S1x1056x128, .f32⟩
  | .local _ .vmem, ⟨10, _⟩ => ⟨S1x1056x128, .f32⟩
  | .local _ .vmem, ⟨11, _⟩ => ⟨S1056x1024, .bf16⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 8, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v31 : Index := Scalar.indexCast arg0
  let c0_15 : Index := 0#32
  ![v31.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x3456 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1056x3456 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1056x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== InProjRefIdeal.lean ====
abbrev S4x8448x1024 : Shape := ⟨3, ![4, 8448, 1024]⟩
abbrev S8x3072 : Shape := ⟨2, ![8, 3072]⟩
abbrev S1x1024 : Shape := ⟨2, ![1, 1024]⟩
abbrev S1024x13824 : Shape := ⟨2, ![1024, 13824]⟩
abbrev S1024x128 : Shape := ⟨2, ![1024, 128]⟩
abbrev S8x1024 : Shape := ⟨2, ![8, 1024]⟩
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1024 : Shape := ⟨2, ![4, 1024]⟩
abbrev S4x1x1024 : Shape := ⟨3, ![4, 1, 1024]⟩
abbrev S4x256x1024 : Shape := ⟨3, ![4, 256, 1024]⟩
abbrev S4x256 : Shape := ⟨2, ![4, 256]⟩
abbrev S4x256x1 : Shape := ⟨3, ![4, 256, 1]⟩
abbrev S4x8448x13824 : Shape := ⟨3, ![4, 8448, 13824]⟩
abbrev S4x8448x128 : Shape := ⟨3, ![4, 8448, 128]⟩

abbrev nBuf : Space → Nat
  | .hbm => 74
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S8x3072, .f32⟩
  | .hbm, ⟨2, _⟩ => ⟨S1x1024, .f32⟩
  | .hbm, ⟨3, _⟩ => ⟨S1024x13824, .bf16⟩
  | .hbm, ⟨4, _⟩ => ⟨S1024x128, .bf16⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S4x8192x1024, .f32⟩
  | .hbm, ⟨9, _⟩ => ⟨S1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S4x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x1024, .f32⟩
  | .hbm, ⟨34, _⟩ => ⟨S4x1x1024, .f32⟩
  | .hbm, ⟨35, _⟩ => ⟨S4x8192x1024, .f32⟩
  | .hbm, ⟨36, _⟩ => ⟨S4x8192x1024, .f32⟩
  | .hbm, ⟨37, _⟩ => ⟨S4x256x1024, .f32⟩
  | .hbm, ⟨38, _⟩ => ⟨S1024, .f32⟩
  | .hbm, ⟨39, _⟩ => ⟨S4x256x1024, .f32⟩
  | .hbm, ⟨40, _⟩ => ⟨S_, .f32⟩
  | .hbm, ⟨41, _⟩ => ⟨S4x256, .f32⟩
  | .hbm, ⟨42, _⟩ => ⟨S4x256x1, .f32⟩
  | .hbm, ⟨43, _⟩ => ⟨S_, .f32⟩
  | .hbm, ⟨44, _⟩ => ⟨S4x256x1, .f32⟩
  | .hbm, ⟨45, _⟩ => ⟨S4x256x1, .f32⟩
  | .hbm, ⟨46, _⟩ => ⟨S_, .f32⟩
  | .hbm, ⟨47, _⟩ => ⟨S4x256x1, .f32⟩
  | .hbm, ⟨48, _⟩ => ⟨S4x256x1, .f32⟩
  | .hbm, ⟨49, _⟩ => ⟨S4x256x1, .f32⟩
  | .hbm, ⟨50, _⟩ => ⟨S4x256x1024, .f32⟩
  | .hbm, ⟨51, _⟩ => ⟨S4x256x1024, .f32⟩
  | .hbm, ⟨52, _⟩ => ⟨S1x1x1024, .f32⟩
  | .hbm, ⟨53, _⟩ => ⟨S4x256x1024, .f32⟩
  | .hbm, ⟨54, _⟩ => ⟨S4x256x1024, .f32⟩
  | .hbm, ⟨55, _⟩ => ⟨S1x1024, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1x1x1024, .f32⟩
  | .hbm, ⟨61, _⟩ => ⟨S4x256x1024, .f32⟩
  | .hbm, ⟨62, _⟩ => ⟨S4x256x1024, .f32⟩
  | .hbm, ⟨63, _⟩ => ⟨S1x1024, .f32⟩
  | .hbm, ⟨64, _⟩ => ⟨S1024, .f32⟩
  | .hbm, ⟨65, _⟩ => ⟨S1x1x1024, .f32⟩
  | .hbm, ⟨66, _⟩ => ⟨S4x256x1024, .f32⟩
  | .hbm, ⟨67, _⟩ => ⟨S4x256x1024, .f32⟩
  | .hbm, ⟨68, _⟩ => ⟨S4x8448x1024, .f32⟩
  | .hbm, ⟨69, _⟩ => ⟨S1024x13824, .f32⟩
  | .hbm, ⟨70, _⟩ => ⟨S4x8448x13824, .f32⟩
  | .hbm, ⟨71, _⟩ => ⟨S4x8448x13824, .bf16⟩
  | .hbm, ⟨72, _⟩ => ⟨S1024x128, .f32⟩
  | .hbm, ⟨73, _⟩ => ⟨S4x8448x128, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩

abbrev nD : Nat := 1
abbrev τ : Topo := Topo.v7x

variable {F : FTy → Type} [FloatOps F]
-- ==== Merge.lean ====
abbrev S4x8448x1024 : Shape := ⟨3, ![4, 8448, 1024]⟩
abbrev S8x3072 : Shape := ⟨2, ![8, 3072]⟩
abbrev S4x8448x13824 : Shape := ⟨3, ![4, 8448, 13824]⟩
abbrev S1x1024 : Shape := ⟨2, ![1, 1024]⟩
abbrev S3x1024x1024 : Shape := ⟨3, ![3, 1024, 1024]⟩
abbrev S1024x1024 : Shape := ⟨2, ![1024, 1024]⟩
abbrev S4x8192x1024 : Shape := ⟨3, ![4, 8192, 1024]⟩
abbrev S1x512x1024 : Shape := ⟨3, ![1, 512, 1024]⟩
abbrev S1x512x3072 : Shape := ⟨3, ![1, 512, 3072]⟩
abbrev S512x1024 : Shape := ⟨2, ![512, 1024]⟩
abbrev S1x1024x1024 : Shape := ⟨3, ![1, 1024, 1024]⟩
abbrev S512 : Shape := ⟨1, ![512]⟩
abbrev S512x1 : Shape := ⟨2, ![512, 1]⟩
abbrev S512x256 : Shape := ⟨2, ![512, 256]⟩
abbrev S512x3072 : Shape := ⟨2, ![512, 3072]⟩

abbrev nBuf : Space → Nat
  | .hbm => 13
  | .vmem => 27
  | .smem => 0
  | _ => 0

abbrev bufTy : (tb : Table) → Fin (tcTables nBuf tb) → BufTy
  | .hbm, ⟨0, _⟩ => ⟨S4x8448x1024, .f32⟩
  | .hbm, ⟨1, _⟩ => ⟨S8x3072, .f32⟩
  | .hbm, ⟨2, _⟩ => ⟨S4x8448x1024, .bf16⟩
  | .hbm, ⟨3, _⟩ => ⟨S4x8448x1024, .bf16⟩
  | .hbm, ⟨4, _⟩ => ⟨S4x8448x13824, .bf16⟩
  | .hbm, ⟨5, _⟩ => ⟨S4x8448x1024, .bf16⟩
  | .hbm, ⟨6, _⟩ => ⟨S4x8448x1024, .bf16⟩
  | .hbm, ⟨7, _⟩ => ⟨S4x8448x1024, .bf16⟩
  | .hbm, ⟨8, _⟩ => ⟨S1x1024, .f32⟩
  | .hbm, ⟨9, _⟩ => ⟨S1x1024, .f32⟩
  | .hbm, ⟨10, _⟩ => ⟨S3x1024x1024, .bf16⟩
  | .hbm, ⟨11, _⟩ => ⟨S1024x1024, .bf16⟩
  | .hbm, ⟨12, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S8x3072, .f32⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x3072, .bf16⟩
  | .local _ .vmem, ⟨20, _⟩ => ⟨S1x512x3072, .bf16⟩
  | .local _ .vmem, ⟨21, _⟩ => ⟨S1x1024, .f32⟩
  | .local _ .vmem, ⟨22, _⟩ => ⟨S1x1024, .f32⟩
  | .local _ .vmem, ⟨23, _⟩ => ⟨S3x1024x1024, .bf16⟩
  | .local _ .vmem, ⟨24, _⟩ => ⟨S1024x1024, .bf16⟩
  | .local _ .vmem, ⟨25, _⟩ => ⟨S1x512x1024, .f32⟩
  | .local _ .vmem, ⟨26, _⟩ => ⟨S1x512x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![4, 16], ![false, false]⟩

def k0_off1 (i : grid0.Coords) : Fin 2 → Nat :=
  let arg0 : BitVec 32 := BitVec.ofNat 32 (i 0).val
  let v151 : Index := Scalar.indexCast arg0
  let c2048_69 : Index := 2048#32
  ![v151.toNat, 2048]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeIdeal.lean ====
variable {F : FTy → Type} [FloatOps F] [Named F]
def κ : String → Option EReal := fun
  | "neg_log2e" => some ((-((Real.log 2)⁻¹) : ℝ) : EReal)
  | _ => none
-- ==== MergeRefIdeal.lean ====
abbrev S4x8448x1024 : Shape := ⟨3, ![4, 8448, 1024]⟩
abbrev S8x3072 : Shape := ⟨2, ![8, 3072]⟩
abbrev S4x8448x13824 : Shape := ⟨3, ![4, 8448, 13824]⟩
abbrev S1x1024 : Shape := ⟨2, ![1, 1024]⟩
abbrev S3x1024x1024 : Shape := ⟨3, ![3, 1024, 1024]⟩
abbrev S1024x1024 : Shape := ⟨2, ![1024, 1024]⟩
abbrev S4x8192x1024 : Shape := ⟨3, ![4, 8192, 1024]⟩
abbrev S8x1024 : Shape := ⟨2, ![8, 1024]⟩
abbrev S4x1024 : Shape := ⟨2, ![4, 1024]⟩
abbrev S_ : Shape := ⟨0, ![]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4x256 : Shape := ⟨4, ![4, 8192, 4, 256]⟩
abbrev S4x256 : Shape := ⟨2, ![4, 256]⟩
abbrev S4x8192x4 : Shape := ⟨3, ![4, 8192, 4]⟩
abbrev S4x8192x4x1 : Shape := ⟨4, ![4, 8192, 4, 1]⟩
abbrev S1x1x4x256 : Shape := ⟨4, ![1, 1, 4, 256]⟩
abbrev S4x8192x3072 : Shape := ⟨3, ![4, 8192, 3072]⟩
abbrev S4x8192x3x1024 : Shape := ⟨4, ![4, 8192, 3, 1024]⟩
abbrev S4x8192x1x1024 : Shape := ⟨4, ![4, 8192, 1, 1024]⟩
abbrev S1x1024x1024 : Shape := ⟨3, ![1, 1024, 1024]⟩
abbrev S4x1x1024 : Shape := ⟨3, ![4, 1, 1024]⟩

abbrev nBuf : Space → Nat
  | .hbm => 139
  | .vmem => 0
  | .smem => 0
  | _ => 0

abbrev hbmTy0_0 (i : Nat) : BufTy := match i % 128 with
  | 0 => ⟨S4x8448x1024, .f32⟩
  | 1 => ⟨S8x3072, .f32⟩
  | 2 => ⟨S4x8448x1024, .bf16⟩
  | 3 => ⟨S4x8448x1024, .bf16⟩
  | 4 => ⟨S4x8448x13824, .bf16⟩
  | 5 => ⟨S4x8448x1024, .bf16⟩
  | 6 => ⟨S4x8448x1024, .bf16⟩
  | 7 => ⟨S4x8448x1024, .bf16⟩
  | 8 => ⟨S1x1024, .f32⟩
  | 9 => ⟨S1x1024, .f32⟩
  | 10 => ⟨S3x1024x1024, .bf16⟩
  | 11 => ⟨S1024x1024, .bf16⟩
  | 12 => ⟨S4x8192x1024, .f32⟩
  | 13 => ⟨S8x1024, .f32⟩
  | 14 => ⟨S8x1024, .f32⟩
  | 15 => ⟨S8x1024, .f32⟩
  | 16 => ⟨S4x1024, .f32⟩
  | 17 => ⟨S4x8192x1024, .bf16⟩
  | 18 => ⟨S4x8192x1024, .f32⟩
  | 19 => ⟨S4x8192x1024, .bf16⟩
  | 20 => ⟨S4x8192x1024, .f32⟩
  | 21 => ⟨S4x8192x1024, .f32⟩
  | 22 => ⟨S4x8192x1024, .bf16⟩
  | 23 => ⟨S4x8192x1024, .f32⟩
  | 24 => ⟨S4x8192x1024, .f32⟩
  | 25 => ⟨S4x8192x1024, .f32⟩
  | 26 => ⟨S_, .f32⟩
  | 27 => ⟨S4x8192x1024, .f32⟩
  | 28 => ⟨S4x8192x1024, .f32⟩
  | 29 => ⟨S_, .f32⟩
  | 30 => ⟨S4x8192x1024, .f32⟩
  | 31 => ⟨S4x8192x1024, .f32⟩
  | 32 => ⟨S4x8192x1024, .f32⟩
  | 33 => ⟨S4x8192x1024, .f32⟩
  | 34 => ⟨S1024, .f32⟩
  | 35 => ⟨S4x8192x1024, .f32⟩
  | 36 => ⟨S_, .f32⟩
  | 37 => ⟨S4x8192, .f32⟩
  | 38 => ⟨S4x8192x1, .f32⟩
  | 39 => ⟨S_, .f32⟩
  | 40 => ⟨S4x8192x1, .f32⟩
  | 41 => ⟨S4x8192x1, .f32⟩
  | 42 => ⟨S_, .f32⟩
  | 43 => ⟨S4x8192x1, .f32⟩
  | 44 => ⟨S4x8192x1, .f32⟩
  | 45 => ⟨S4x8192x1, .f32⟩
  | 46 => ⟨S4x8192x1024, .f32⟩
  | 47 => ⟨S4x8192x1024, .f32⟩
  | 48 => ⟨S1x1x1024, .f32⟩
  | 49 => ⟨S4x8192x1024, .f32⟩
  | 50 => ⟨S4x8192x1024, .f32⟩
  | 51 => ⟨S4x8192x1024, .bf16⟩
  | 52 => ⟨S4x8192x1024, .f32⟩
  | 53 => ⟨S4x8192x1024, .bf16⟩
  | 54 => ⟨S4x8192x1024, .f32⟩
  | 55 => ⟨S4x8192x1024, .f32⟩
  | 56 => ⟨S4x8192x4x256, .f32⟩
  | 57 => ⟨S4x8192x1024, .bf16⟩
  | 58 => ⟨S4x8192x1024, .f32⟩
  | 59 => ⟨S4x8192x1024, .f32⟩
  | 60 => ⟨S4x8192x1024, .f32⟩
  | 61 => ⟨S_, .f32⟩
  | 62 => ⟨S4x8192x1024, .f32⟩
  | 63 => ⟨S4x8192x1024, .f32⟩
  | 64 => ⟨S_, .f32⟩
  | 65 => ⟨S4x8192x1024, .f32⟩
  | 66 => ⟨S4x8192x1024, .f32⟩
  | 67 => ⟨S4x8192x4x256, .f32⟩
  | 68 => ⟨S4x8192x4x256, .f32⟩
  | 69 => ⟨S4x256, .f32⟩
  | 70 => ⟨S4x8192x4x256, .f32⟩
  | 71 => ⟨S_, .f32⟩
  | 72 => ⟨S4x8192x4, .f32⟩
  | 73 => ⟨S4x8192x4x1, .f32⟩
  | 74 => ⟨S_, .f32⟩
  | 75 => ⟨S4x8192x4x1, .f32⟩
  | 76 => ⟨S4x8192x4x1, .f32⟩
  | 77 => ⟨S_, .f32⟩
  | 78 => ⟨S4x8192x4x1, .f32⟩
  | 79 => ⟨S4x8192x4x1, .f32⟩
  | 80 => ⟨S4x8192x4x1, .f32⟩
  | 81 => ⟨S4x8192x4x256, .f32⟩
  | 82 => ⟨S4x8192x4x256, .f32⟩
  | 83 => ⟨S1x1x4x256, .f32⟩
  | 84 => ⟨S4x8192x4x256, .f32⟩
  | 85 => ⟨S4x8192x4x256, .f32⟩
  | 86 => ⟨S4x8192x1024, .f32⟩
  | 87 => ⟨S4x8192x1024, .bf16⟩
  | 88 => ⟨S4x8192x1024, .f32⟩
  | 89 => ⟨S4x8192x1024, .f32⟩
  | 90 => ⟨S4x8192x1024, .f32⟩
  | 91 => ⟨S_, .f32⟩
  | 92 => ⟨S4x8192x1024, .f32⟩
  | 93 => ⟨S4x8192x1024, .f32⟩
  | 94 => ⟨S_, .f32⟩
  | 95 => ⟨S4x8192x1024, .f32⟩
  | 96 => ⟨S4x8192x1024, .f32⟩
  | 97 => ⟨S4x8192x1024, .f32⟩
  | 98 => ⟨S4x8192x1024, .f32⟩
  | 99 => ⟨S4x8192x3072, .bf16⟩
  | 100 => ⟨S4x8192x3072, .f32⟩
  | 101 => ⟨S4x8192x3072, .f32⟩
  | 102 => ⟨S4x8192x3072, .f32⟩
  | 103 => ⟨S_, .f32⟩
  | 104 => ⟨S4x8192x3072, .f32⟩
  | 105 => ⟨S4x8192x3072, .f32⟩
  | 106 => ⟨S_, .f32⟩
  | 107 => ⟨S4x8192x3072, .f32⟩
  | 108 => ⟨S4x8192x3072, .f32⟩
  | 109 => ⟨S4x8192x3x1024, .f32⟩
  | 110 => ⟨S3x1024x1024, .f32⟩
  | 111 => ⟨S4x8192x1x1024, .f32⟩
  | 112 => ⟨S4x8192x1024, .f32⟩
  | 113 => ⟨S1x1024x1024, .f32⟩
  | 114 => ⟨S1024x1024, .f32⟩
  | 115 => ⟨S4x8192x1024, .f32⟩
  | 116 => ⟨S4x8192x1024, .f32⟩
  | 117 => ⟨S4x8192x1x1024, .f32⟩
  | 118 => ⟨S4x8192x1024, .f32⟩
  | 119 => ⟨S4x8192x1024, .bf16⟩
  | 120 => ⟨S4x8192x1024, .f32⟩
  | 121 => ⟨S1x1024x1024, .f32⟩
  | 122 => ⟨S1024x1024, .f32⟩
  | 123 => ⟨S4x8192x1024, .f32⟩
  | 124 => ⟨S4x8192x1024, .f32⟩
  | 125 => ⟨S4x8192x1024, .f32⟩
  | 126 => ⟨S4x8192x1x1024, .f32⟩
  | 127 => ⟨S4x8192x1024, .f32⟩
  | _ => ⟨S4x8448x1024, .f32⟩

abbrev hbmTy0_1 (i : Nat) : BufTy := match i % 128 with
  | 0 => ⟨S1x1024x1024, .f32⟩
  | 1 => ⟨S1024x1024, .f32⟩
  | 2 => ⟨S4x8192x1024, .f32⟩
  | 3 => ⟨S4x8192x1024, .f32⟩
  | 4 => ⟨S4x8192x1024, .f32⟩
  | 5 => ⟨S4x1x1024, .f32⟩
  | 6 => ⟨S1024x1024, .f32⟩
  | 7 => ⟨S4x8192x1024, .f32⟩
  | 8 => ⟨S4x8192x1024, .f32⟩
  | 9 => ⟨S4x8192x1024, .f32⟩
  | 10 => ⟨S4x8192x1024, .f32⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_cst_0 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_v49 : Ref sig .tc := ⟨.hbm, 76, rfl⟩
abbrev main_cst_6 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_7 : Ref sig .tc := ⟨.hbm, 103, rfl⟩
abbrev main_v67 : Ref sig .tc := ⟨.hbm, 104, rfl⟩
abbrev main_v68 : Ref sig .tc := ⟨.hbm, 105, rfl⟩
abbrev main_cst_8 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]
-- ==== MergeAll.lean ====
abbrev S4x8448x1024 : Shape := ⟨3, ![4, 8448, 1024]⟩
abbrev S8x3072 : Shape := ⟨2, ![8, 3072]⟩
abbrev S4x8448x13824 : Shape := ⟨3, ![4, 8448, 13824]⟩
abbrev S1x1024 : Shape := ⟨2, ![1, 1024]⟩
abbrev S3x1024x1024 : Shape := ⟨3, ![3, 1024, 1024]⟩
abbrev S1024x1024 : Shape := ⟨2, ![1024, 1024]⟩
abbrev S1x384x1024 : Shape := ⟨3, ![1, 384, 1024]⟩
abbrev S1x384x3072 : Shape := ⟨3, ![1, 384, 3072]⟩
abbrev S384x1024 : Shape := ⟨2, ![384, 1024]⟩
abbrev S1x1024x1024 : Shape := ⟨3, ![1, 1024, 1024]⟩
abbrev S384 : Shape := ⟨1, ![384]⟩
abbrev S384x1 : Shape := ⟨2, ![384, 1]⟩
abbrev S384x256 : Shape := ⟨2, ![384, 256]⟩
abbrev S384x3072 : Shape := ⟨2, ![384, 3072]⟩

abbrev nBuf : Space → Nat
  | .hbm => 13
  | .vmem => 27
  | .smem => 0
  | _ => 0

abbrev bufTy : (tb : Table) → Fin (tcTables nBuf tb) → BufTy
  | .hbm, ⟨0, _⟩ => ⟨S4x8448x1024, .f32⟩
  | .hbm, ⟨1, _⟩ => ⟨S8x3072, .f32⟩
  | .hbm, ⟨2, _⟩ => ⟨S4x8448x1024, .bf16⟩
  | .hbm, ⟨3, _⟩ => ⟨S4x8448x1024, .bf16⟩
  | .hbm, ⟨4, _⟩ => ⟨S4x8448x13824, .bf16⟩
  | .hbm, ⟨5, _⟩ => ⟨S4x8448x1024, .bf16⟩
  | .hbm, ⟨6, _⟩ => ⟨S4x8448x1024, .bf16⟩
  | .hbm, ⟨7, _⟩ => ⟨S4x8448x1024, .bf16⟩
  | .hbm, ⟨8, _⟩ => ⟨S1x1024, .f32⟩
  | .hbm, ⟨9, _⟩ => ⟨S1x1024, .f32⟩
  | .hbm, ⟨10, _⟩ => ⟨S3x1024x1024, .bf16⟩
  | .hbm, ⟨11, _⟩ => ⟨S1024x1024, .bf16⟩
  | .hbm, ⟨12, _⟩ => ⟨S4x8448x1024, .f32⟩
  | .local _ .vmem, ⟨0, _⟩ => ⟨S1x384x1024, .f32⟩
  | .local _ .vmem, ⟨1, _⟩ => ⟨S1x384x1024, .f32⟩
  | .local _ .vmem, ⟨2, _⟩ => ⟨S8x3072, .f32⟩
  | .local _ .vmem, ⟨3, _⟩ => ⟨S1x384x1024, .bf16⟩
  | .local _ .vmem, ⟨4, _⟩ => ⟨S1x384x1024, .bf16⟩
  | .local _ .vmem, ⟨5, _⟩ => ⟨S1x384x1024, .bf16⟩
  | .local _ .vmem, ⟨6, _⟩ => ⟨S1x384x1024, .bf16⟩
  | .local _ .vmem, ⟨7, _⟩ => ⟨S1x384x1024, .bf16⟩
  | .local _ .vmem, ⟨8, _⟩ => ⟨S1x384x1024, .bf16⟩
  | .local _ .vmem, ⟨9, _⟩ => ⟨S1x384x1024, .bf16⟩
  | .local _ .vmem, ⟨10, _⟩ => ⟨S1x384x1024, .bf16⟩
  | .local _ .vmem, ⟨11, _⟩ => ⟨S1x384x1024, .bf16⟩
  | .local _ .vmem, ⟨12, _⟩ => ⟨S1x384x1024, .bf16⟩
  | .local _ .vmem, ⟨13, _⟩ => ⟨S1x384x1024, .bf16⟩
  | .local _ .vmem, ⟨14, _⟩ => ⟨S1x384x1024, .bf16⟩
  | .local _ .vmem, ⟨15, _⟩ => ⟨S1x384x1024, .bf16⟩
  | .local _ .vmem, ⟨16, _⟩ => ⟨S1x384x1024, .bf16⟩
  | .local _ .vmem, ⟨17, _⟩ => ⟨S1x384x1024, .bf16⟩
  | .local _ .vmem, ⟨18, _⟩ => ⟨S1x384x1024, .bf16⟩
  | .local _ .vmem, ⟨19, _⟩ => ⟨S1x384x3072, .bf16⟩
  | .local _ .vmem, ⟨20, _⟩ => ⟨S1x384x3072, .bf16⟩
  | .local _ .vmem, ⟨21, _⟩ => ⟨S1x1024, .f32⟩
  | .local _ .vmem, ⟨22, _⟩ => ⟨S1x1024, .f32⟩
  | .local _ .vmem, ⟨23, _⟩ => ⟨S3x1024x1024, .bf16⟩
  | .local _ .vmem, ⟨24, _⟩ => ⟨S1024x1024, .bf16⟩
  | .local _ .vmem, ⟨25, _⟩ => ⟨S1x384x1024, .f32⟩
  | .local _ .vmem, ⟨26, _⟩ => ⟨S1x384x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![4, 22], ![false, false]⟩

def k0_off1 (i : grid0.Coords) : Fin 2 → Nat :=
  let arg0 : BitVec 32 := BitVec.ofNat 32 (i 0).val
  let v151 : Index := Scalar.indexCast arg0
  let c2048_69 : Index := 2048#32
  ![v151.toNat, 2048]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x384x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x384x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeAllIdeal.lean ====
variable {F : FTy → Type} [FloatOps F] [Named F]
def κ : String → Option EReal := fun
  | "neg_log2e" => some ((-((Real.log 2)⁻¹) : ℝ) : EReal)
  | _ => none
-- ==== MergeAllRefIdeal.lean ====
abbrev S4x8448x1024 : Shape := ⟨3, ![4, 8448, 1024]⟩
abbrev S8x3072 : Shape := ⟨2, ![8, 3072]⟩
abbrev S4x8448x13824 : Shape := ⟨3, ![4, 8448, 13824]⟩
abbrev S1x1024 : Shape := ⟨2, ![1, 1024]⟩
abbrev S3x1024x1024 : Shape := ⟨3, ![3, 1024, 1024]⟩
abbrev S1024x1024 : Shape := ⟨2, ![1024, 1024]⟩
abbrev S8x1024 : Shape := ⟨2, ![8, 1024]⟩
abbrev S_ : Shape := ⟨0, ![]⟩
abbrev S1024 : Shape := ⟨1, ![1024]⟩
abbrev S4x8448 : Shape := ⟨2, ![4, 8448]⟩
abbrev S4x8448x1 : Shape := ⟨3, ![4, 8448, 1]⟩
abbrev S1x1x1024 : Shape := ⟨3, ![1, 1, 1024]⟩
abbrev S4x8448x4x256 : Shape := ⟨4, ![4, 8448, 4, 256]⟩
abbrev S4x256 : Shape := ⟨2, ![4, 256]⟩
abbrev S4x8448x4 : Shape := ⟨3, ![4, 8448, 4]⟩
abbrev S4x8448x4x1 : Shape := ⟨4, ![4, 8448, 4, 1]⟩
abbrev S1x1x4x256 : Shape := ⟨4, ![1, 1, 4, 256]⟩
abbrev S4x8448x3072 : Shape := ⟨3, ![4, 8448, 3072]⟩
abbrev S4x8448x3x1024 : Shape := ⟨4, ![4, 8448, 3, 1024]⟩
abbrev S4x8448x1x1024 : Shape := ⟨4, ![4, 8448, 1, 1024]⟩
abbrev S1x1024x1024 : Shape := ⟨3, ![1, 1024, 1024]⟩
abbrev S4x8192x1024 : Shape := ⟨3, ![4, 8192, 1024]⟩
abbrev S4x1024 : Shape := ⟨2, ![4, 1024]⟩
abbrev S4x1x1024 : Shape := ⟨3, ![4, 1, 1024]⟩
abbrev S4x256x1024 : Shape := ⟨3, ![4, 256, 1024]⟩

abbrev nBuf : Space → Nat
  | .hbm => 144
  | .vmem => 0
  | .smem => 0
  | _ => 0

abbrev hbmTy0_0 (i : Nat) : BufTy := match i % 128 with
  | 0 => ⟨S4x8448x1024, .f32⟩
  | 1 => ⟨S8x3072, .f32⟩
  | 2 => ⟨S4x8448x1024, .bf16⟩
  | 3 => ⟨S4x8448x1024, .bf16⟩
  | 4 => ⟨S4x8448x13824, .bf16⟩
  | 5 => ⟨S4x8448x1024, .bf16⟩
  | 6 => ⟨S4x8448x1024, .bf16⟩
  | 7 => ⟨S4x8448x1024, .bf16⟩
  | 8 => ⟨S1x1024, .f32⟩
  | 9 => ⟨S1x1024, .f32⟩
  | 10 => ⟨S3x1024x1024, .bf16⟩
  | 11 => ⟨S1024x1024, .bf16⟩
  | 12 => ⟨S8x1024, .f32⟩
  | 13 => ⟨S8x1024, .f32⟩
  | 14 => ⟨S8x1024, .f32⟩
  | 15 => ⟨S4x8448x1024, .f32⟩
  | 16 => ⟨S4x8448x1024, .f32⟩
  | 17 => ⟨S4x8448x1024, .f32⟩
  | 18 => ⟨S4x8448x1024, .bf16⟩
  | 19 => ⟨S4x8448x1024, .f32⟩
  | 20 => ⟨S4x8448x1024, .f32⟩
  | 21 => ⟨S4x8448x1024, .f32⟩
  | 22 => ⟨S_, .f32⟩
  | 23 => ⟨S4x8448x1024, .f32⟩
  | 24 => ⟨S4x8448x1024, .f32⟩
  | 25 => ⟨S_, .f32⟩
  | 26 => ⟨S4x8448x1024, .f32⟩
  | 27 => ⟨S4x8448x1024, .f32⟩
  | 28 => ⟨S4x8448x1024, .f32⟩
  | 29 => ⟨S4x8448x1024, .f32⟩
  | 30 => ⟨S1024, .f32⟩
  | 31 => ⟨S4x8448x1024, .f32⟩
  | 32 => ⟨S_, .f32⟩
  | 33 => ⟨S4x8448, .f32⟩
  | 34 => ⟨S4x8448x1, .f32⟩
  | 35 => ⟨S_, .f32⟩
  | 36 => ⟨S4x8448x1, .f32⟩
  | 37 => ⟨S4x8448x1, .f32⟩
  | 38 => ⟨S_, .f32⟩
  | 39 => ⟨S4x8448x1, .f32⟩
  | 40 => ⟨S4x8448x1, .f32⟩
  | 41 => ⟨S4x8448x1, .f32⟩
  | 42 => ⟨S4x8448x1024, .f32⟩
  | 43 => ⟨S4x8448x1024, .f32⟩
  | 44 => ⟨S1x1x1024, .f32⟩
  | 45 => ⟨S4x8448x1024, .f32⟩
  | 46 => ⟨S4x8448x1024, .f32⟩
  | 47 => ⟨S4x8448x1024, .f32⟩
  | 48 => ⟨S4x8448x1024, .f32⟩
  | 49 => ⟨S4x8448x1024, .f32⟩
  | 50 => ⟨S4x8448x4x256, .f32⟩
  | 51 => ⟨S4x8448x1024, .bf16⟩
  | 52 => ⟨S4x8448x1024, .f32⟩
  | 53 => ⟨S4x8448x1024, .f32⟩
  | 54 => ⟨S4x8448x1024, .f32⟩
  | 55 => ⟨S_, .f32⟩
  | 56 => ⟨S4x8448x1024, .f32⟩
  | 57 => ⟨S4x8448x1024, .f32⟩
  | 58 => ⟨S_, .f32⟩
  | 59 => ⟨S4x8448x1024, .f32⟩
  | 60 => ⟨S4x8448x1024, .f32⟩
  | 61 => ⟨S4x8448x4x256, .f32⟩
  | 62 => ⟨S4x8448x4x256, .f32⟩
  | 63 => ⟨S4x256, .f32⟩
  | 64 => ⟨S4x8448x4x256, .f32⟩
  | 65 => ⟨S_, .f32⟩
  | 66 => ⟨S4x8448x4, .f32⟩
  | 67 => ⟨S4x8448x4x1, .f32⟩
  | 68 => ⟨S_, .f32⟩
  | 69 => ⟨S4x8448x4x1, .f32⟩
  | 70 => ⟨S4x8448x4x1, .f32⟩
  | 71 => ⟨S_, .f32⟩
  | 72 => ⟨S4x8448x4x1, .f32⟩
  | 73 => ⟨S4x8448x4x1, .f32⟩
  | 74 => ⟨S4x8448x4x1, .f32⟩
  | 75 => ⟨S4x8448x4x256, .f32⟩
  | 76 => ⟨S4x8448x4x256, .f32⟩
  | 77 => ⟨S1x1x4x256, .f32⟩
  | 78 => ⟨S4x8448x4x256, .f32⟩
  | 79 => ⟨S4x8448x4x256, .f32⟩
  | 80 => ⟨S4x8448x1024, .f32⟩
  | 81 => ⟨S4x8448x1024, .bf16⟩
  | 82 => ⟨S4x8448x1024, .f32⟩
  | 83 => ⟨S4x8448x1024, .f32⟩
  | 84 => ⟨S4x8448x1024, .f32⟩
  | 85 => ⟨S_, .f32⟩
  | 86 => ⟨S4x8448x1024, .f32⟩
  | 87 => ⟨S4x8448x1024, .f32⟩
  | 88 => ⟨S_, .f32⟩
  | 89 => ⟨S4x8448x1024, .f32⟩
  | 90 => ⟨S4x8448x1024, .f32⟩
  | 91 => ⟨S4x8448x1024, .f32⟩
  | 92 => ⟨S4x8448x1024, .f32⟩
  | 93 => ⟨S4x8448x3072, .bf16⟩
  | 94 => ⟨S4x8448x3072, .f32⟩
  | 95 => ⟨S4x8448x3072, .f32⟩
  | 96 => ⟨S4x8448x3072, .f32⟩
  | 97 => ⟨S_, .f32⟩
  | 98 => ⟨S4x8448x3072, .f32⟩
  | 99 => ⟨S4x8448x3072, .f32⟩
  | 100 => ⟨S_, .f32⟩
  | 101 => ⟨S4x8448x3072, .f32⟩
  | 102 => ⟨S4x8448x3072, .f32⟩
  | 103 => ⟨S4x8448x3x1024, .f32⟩
  | 104 => ⟨S3x1024x1024, .f32⟩
  | 105 => ⟨S4x8448x1x1024, .f32⟩
  | 106 => ⟨S4x8448x1024, .f32⟩
  | 107 => ⟨S1x1024x1024, .f32⟩
  | 108 => ⟨S1024x1024, .f32⟩
  | 109 => ⟨S4x8448x1024, .f32⟩
  | 110 => ⟨S4x8448x1024, .f32⟩
  | 111 => ⟨S4x8448x1x1024, .f32⟩
  | 112 => ⟨S4x8448x1024, .f32⟩
  | 113 => ⟨S4x8448x1024, .f32⟩
  | 114 => ⟨S1x1024x1024, .f32⟩
  | 115 => ⟨S1024x1024, .f32⟩
  | 116 => ⟨S4x8448x1024, .f32⟩
  | 117 => ⟨S4x8448x1024, .f32⟩
  | 118 => ⟨S4x8448x1024, .f32⟩
  | 119 => ⟨S4x8448x1x1024, .f32⟩
  | 120 => ⟨S4x8448x1024, .f32⟩
  | 121 => ⟨S1x1024x1024, .f32⟩
  | 122 => ⟨S1024x1024, .f32⟩
  | 123 => ⟨S4x8448x1024, .f32⟩
  | 124 => ⟨S4x8448x1024, .f32⟩
  | 125 => ⟨S4x8448x1024, .f32⟩
  | 126 => ⟨S1024x1024, .f32⟩
  | 127 => ⟨S4x8448x1024, .f32⟩
  | _ => ⟨S4x8448x1024, .f32⟩

abbrev hbmTy0_1 (i : Nat) : BufTy := match i % 128 with
  | 0 => ⟨S4x8192x1024, .f32⟩
  | 1 => ⟨S4x1024, .f32⟩
  | 2 => ⟨S4x1x1024, .f32⟩
  | 3 => ⟨S4x8192x1024, .f32⟩
  | 4 => ⟨S4x8192x1024, .f32⟩
  | 5 => ⟨S4x8192x1024, .f32⟩
  | 6 => ⟨S4x8192x1024, .f32⟩
  | 7 => ⟨S4x256x1024, .f32⟩
  | 8 => ⟨S1x1024, .f32⟩
  | 9 => ⟨S1024, .f32⟩
  | 10 => ⟨S4x256x1024, .f32⟩
  | 11 => ⟨S1x1x1024, .f32⟩
  | 12 => ⟨S4x256x1024, .f32⟩
  | 13 => ⟨S4x256x1024, .f32⟩
  | 14 => ⟨S4x256x1024, .f32⟩
  | 15 => ⟨S4x8448x1024, .f32⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_7 : Ref sig .tc := ⟨.hbm, 97, rfl⟩
abbrev main_v61 : Ref sig .tc := ⟨.hbm, 98, rfl⟩
abbrev main_v62 : Ref sig .tc := ⟨.hbm, 99, rfl⟩
abbrev main_cst_8 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩

abbrev nD : Nat := 1
abbrev τ : Topo := Topo.v7x

variable {F : FTy → Type} [FloatOps F]
-- ==== Proof.Attn.Tiles.lean ====
/- What one grid point of the attention call leaves in its output block and in its value scratch, as a function of the
   blocks it reads. The exponentials of the scores are stored as 33 tiles of 256 keys for each of the two sub-heads and
   then read back whole; here those tiles are one family. -/
module

public import proofs.«01_k».proof.Proof.Gen.KernelIdeal.Frame
public import Idealize.ShloMosaic.Lib.Pipeline.ValueKit.Tiles
public import Idealize.ShloMosaic.Lib.Pipeline.ReadBack

@[expose] public section

set_option maxRecDepth 16384

noncomputable section

namespace Cert.KernelIdeal.AttnValue

open Cert.KernelIdeal Cert.KernelIdeal.Gen Idealize.ShloMosaic Idealize.ShloMosaic.TcCoe Idealize.ShloMosaic.Tactic Idealize.SL.Sem

variable {F : FTy → Type} [FloatOps F] [Named F]
variable (m : (ℓ : Loc nD τ sig) → Buf (Elt F) ℓ)

/-- A tile's rectangle lies inside the scratch of exponentials. -/
theorem tile_inb (c j : ℕ) (hc : c < 2) (hj : j < 33) :
    ∀ a, (![c, 0, 256 * j] : Fin 3 → ℕ) a + S1x1024x256.size a ≤ S2x1024x8448.size a := by
  intro a
  fin_cases a
  · show c + 1 ≤ 2; omega
  · show 0 + 1024 ≤ 1024; omega
  · show 256 * j + 256 ≤ 8448; omega

/-- A tile's keys lie inside the key block. -/
theorem keys_inb (j : ℕ) (hj : j < 33) :
    ∀ a, (![0, 256 * j, 0] : Fin 3 → ℕ) a + S1x256x128.size a ≤ S1x8448x128.size a := by
  intro a
  fin_cases a
  · show 0 + 1 ≤ 1; omega
  · show 256 * j + 256 ≤ 8448; omega
  · show 0 + 128 ≤ 128; omega

/-- The 33 tiles of sub-head `c`, last stored first: the exponentials of the scores of the masked queries `q` with 256 keys. -/
def tiles (c : ℕ) (hc : c < 2) (sh : FVec F S1x1 .f32) (q : FVec F S1024x128 .bf16) (K : Vec F S1x8448x128 .bf16) :
    List (View.Piece (Elt F) S2x1024x8448 .bf16) :=
  List.ofFn fun j : Fin 33 =>
    ⟨Rect.unit ![c, 0, 256 * (32 - j.val)] S1x1024x256.size (tile_inb c (32 - j.val) hc (by omega)),
      k0_pay10 sh q (View.ld K (Rect.unit ![0, 256 * (32 - j.val), 0] S1x256x128.size (keys_inb (32 - j.val) (by omega))))⟩

/-- The queries with the second half of their lanes cleared: the first sub-head's. -/
def q0 (x0 : Vec F S1x1024x128 .bf16) : FVec F S1024x128 .bf16 := k0_pay8 x0

/-- The queries with the first half of their lanes cleared: the second sub-head's. -/
def q1 (x0 : Vec F S1x1024x128 .bf16) : FVec F S1024x128 .bf16 :=
  k0_pay9 (k0_pay6 x0) (iota .tc S1024x128 32 [1] iota_S1024x128_d1_w32) (k0_pay7 (F := F))

/-- All the tiles, the second sub-head's stored last. -/
def tiles2 (x0 : Vec F S1x1024x128 .bf16) (x1 : Vec F S1x8448x128 .bf16) (sh : FVec F S1x1 .f32) :
    List (View.Piece (Elt F) S2x1024x8448 .bf16) :=
  tiles 1 (by omega) sh (q1 x0) x1 ++ tiles 0 (by omega) sh (q0 x0) x1

/-- The exponentials of the first sub-head as read back. -/
def e0 (x0 : Vec F S1x1024x128 .bf16) (x1 : Vec F S1x8448x128 .bf16) (sh : FVec F S1x1 .f32) : Vec F S1x1024x8448 .bf16 :=
  fun j => View.canon (tiles 0 (by omega) sh (q0 x0) x1)
    ((Rect.unit (s := S2x1024x8448) ![0, 0, 0] S1x1024x8448.size inb_S2x1024x8448_S1x1024x8448_0_0_0).toLoadRect.idx j)

/-- The exponentials of the second sub-head as read back. -/
def e1 (x0 : Vec F S1x1024x128 .bf16) (x1 : Vec F S1x8448x128 .bf16) (sh : FVec F S1x1 .f32) : Vec F S1x1024x8448 .bf16 :=
  fun j => View.canon (tiles2 x0 x1 sh)
    ((Rect.unit (s := S2x1024x8448) ![1, 0, 0] S1x1024x8448.size inb_S2x1024x8448_S1x1024x8448_1_0_0).toLoadRect.idx j)

/-- The value scratch after a first query block: the values in its left half, ones in its right half. -/
def vs (x2 : Vec F S1x8448x128 .bf16) : Vec F S8448x256 .bf16 :=
  View.canon [⟨Rect.unit ![0, 128] S8448x128.size inb_S8448x256_S8448x128_0_128, k0_pay3 (F := F)⟩,
    ⟨Rect.unit ![0, 0] S8448x128.size inb_S8448x256_S8448x128_0_0, k0_pay2 x2⟩]

/-- The output block, from the input blocks and the value scratch `S`. -/
def blk (x0 : Vec F S1x1024x128 .bf16) (x1 : Vec F S1x8448x128 .bf16) (S : Vec F S8448x256 .bf16)
    (x3 : Vec F S1x1024x128 .bf16) (x4 : Vec F S4x64 .f32) (x5 x6 : Vec F S1x64 .f32) (x7 : Vec F S1x128 .f32) :
    Vec F S1x1024x128 .bf16 :=
  k0_pay1 (k0_pay93 (k0_pay4 x4) (k0_pay52 (e0 x0 x1 (k0_pay5 x5 x6)) S) (e1 x0 x1 (k0_pay5 x5 x6)) S x7 x3)

/-- The last payload's arguments replaced by equal ones, one at a time. -/
theorem last_congr (a b : FVec F S1x1 .f32) (E0 E0' E1 E1' : Vec F S1x1024x8448 .bf16) (S S' : Vec F S8448x256 .bf16)
    (x : Vec F S1x128 .f32) (z : Vec F S1x1024x128 .bf16) (h0 : E0 = E0') (h1 : E1 = E1') (hS : S = S') (ha : a = b) :
    k0_pay93 a (k0_pay52 E0 S) E1 S x z = k0_pay93 b (k0_pay52 E0' S') E1' S' x z := by
  rw [h0, h1, hS, ha]

/-- The output block of a point that is not the first of its head. -/
theorem after_B (c : Dev nD) (t : Fin cfg0.N) (h0 : ¬ t.val % 8 = 0) :
    (outsAt0 m c t.val t.isLt).1 = blk (X0_0 m c t) (iblk m c 1 t)
      (outsAt0 m c (t.val - 1) (Nat.lt_of_le_of_lt (Nat.sub_le _ _) t.isLt)).2 (X0_3 m c t) (iblk m c 4 t) (iblk m c 5 t)
      (iblk m c 6 t) (iblk m c 7 t) := by
  rw [outsAt0_B m c t h0]
  frame_out
  simp only [Memref.IsWhole.read_unread, View.readCov_eq_canon']
  refine congrArg k0_pay1 (last_congr _ _ _ _ _ _ _ _ _ _ ?_ ?_ ?_ ?_)
  · rfl
  · rfl
  · exact Memref.IsWhole.read_unread _ _
  · rfl

/-- The value scratch there is the one the point before left. -/
theorem scratch_B (c : Dev nD) (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  rfl

/-- The value scratch at the first point of a head. -/
theorem scratch_A (c : Dev nD) (t : Fin cfg0.N) (h0 : t.val % 8 = 0) :
    (outsAt0 m c t.val t.isLt).2 = vs (iblk m c 2 t) := by
  rw [outsAt0_A m c t h0]
  frame_out

/-- The output block there. -/
theorem after_A (c : Dev nD) (t : Fin cfg0.N) (h0 : t.val % 8 = 0) :
    (outsAt0 m c t.val t.isLt).1 = blk (X0_0 m c t) (iblk m c 1 t) (vs (iblk m c 2 t)) (X0_3 m c t) (iblk m c 4 t)
      (iblk m c 5 t) (iblk m c 6 t) (iblk m c 7 t) := by
  rw [outsAt0_A m c t h0]
  frame_out
  simp only [Memref.IsWhole.read_unread, View.readCov_eq_canon']
  refine congrArg k0_pay1 (last_congr _ _ _ _ _ _ _ _ _ _ ?_ ?_ ?_ ?_)
  · rfl
  · rfl
  · refine Eq.trans ?_ (View.ld_unit_lit inb_S8448x256_S8448x256_0_0 (vs (iblk m c 2 t)) (by decide))
    rfl
  · rfl

end Cert.KernelIdeal.AttnValue
-- ==== Proof.Attn.Payloads.lean ====
/- The values the attention call's body computes, read at one index over the extended reals. -/
module

public import proofs.«01_k».proof.Proof.Gen.KernelIdeal.Skeleton
public import Idealize.ShloMosaic.Lib.Pointwise
public import Idealize.ShloMosaic.Lib.ValueIdx
public import Idealize.ShloMosaic.Lib.WordCmp

@[expose] public section

set_option maxRecDepth 16384

noncomputable section

namespace Cert.KernelIdeal.AttnValue

open Cert.KernelIdeal Cert.KernelIdeal.Gen Idealize.ShloMosaic

/-- The named constant the kernel multiplies by before its exponential is `-1 / log 2`. -/
theorem neg_log2e :
    Named.named (F := Ideal) Cert.KernelIdeal.κ "neg_log2e" (φ := .f32) 0xBFB8AA3B#32 = ((-((Real.log 2)⁻¹) : ℝ) : EReal) :=
  IdealRules.named_const.ideal_named_scalar _ _ _ _ rfl

/-- The queries with the second half of their lanes cleared, at one lane. -/
theorem pay8_apply (x : Vec Ideal S1x1024x128 .bf16) (r : Fin 1024) (d : Fin 128) :
    k0_pay8 (F := Ideal) x (ix2 r d) = if d.val < 64 then x (ix3 0 r d) else 0 := by
  pointwise [k0_pay8, k0_pay6, k0_pay7]
  rw [WordCmp.cmpi_slt_ofNat (by have := d.isLt; omega) (by omega)]
  by_cases h : d.val < 64 <;> simp [h, Scalar.select, BitVec.ofBool]

/-- The queries with the first half of their lanes cleared, at one lane. -/
theorem pay9_apply (x : Vec Ideal S1x1024x128 .bf16) (r : Fin 1024) (d : Fin 128) :
    k0_pay9 (F := Ideal) (k0_pay6 x) (iota .tc S1024x128 32 [1] iota_S1024x128_d1_w32) (k0_pay7 (F := Ideal)) (ix2 r d)
      = if d.val < 64 then 0 else x (ix3 0 r d) := by
  pointwise [k0_pay9, k0_pay6, k0_pay7]
  rw [WordCmp.cmpi_slt_ofNat (by have := d.isLt; omega) (by omega)]
  by_cases h : d.val < 64 <;> simp [h, Scalar.select, BitVec.ofBool]

/-- A tile of exponentials at a query and a key. -/
theorem pay10_apply (sh : FVec Ideal S1x1 .f32) (q : FVec Ideal S1024x128 .bf16) (K : Vec Ideal S1x256x128 .bf16)
    (r : Fin 1024) (k : Fin 256) :
    k0_pay10 (F := Ideal) sh q K (ix3 0 r k)
      = Ideal.exp2 ((∑ d : Fin 128, q (ix2 r d) * K (ix3 0 k d)) - sh (ix2 0 0)) := by
  pointwise [k0_pay10]
  rfl

/-- A product of the exponentials with the value scratch. -/
theorem pay52_apply (e : Vec Ideal S1x1024x8448 .bf16) (S : Vec Ideal S8448x256 .bf16) (r : Fin 1024) (j : Fin 256) :
    k0_pay52 (F := Ideal) e S (ix2 r j) = ∑ k : Fin 8448, e (ix3 0 r k) * S (ix2 k j) := by
  pointwise [k0_pay52]

/-- The values as stored in the scratch. -/
theorem pay2_apply (x : Vec Ideal S1x8448x128 .bf16) (k : Fin 8448) (j : Fin 128) :
    k0_pay2 (F := Ideal) x (ix2 k j) = x (ix3 0 k j) := by
  pointwise [k0_pay2]

/-- The ones stored beside them. -/
theorem pay3_apply (k : Fin 8448) (j : Fin 128) : k0_pay3 (F := Ideal) (ix2 k j) = 1 := by
  pointwise [k0_pay3]

/-- The output block as stored. -/
theorem pay1_apply (x : FVec Ideal S1024x128 .f32) (r : Fin 1024) (j : Fin 128) :
    k0_pay1 (F := Ideal) x (ix3 0 r j) = x (ix2 r j) := by
  pointwise [k0_pay1]

/-- The weight of the second sub-head. -/
theorem pay4_apply (x : Vec Ideal S4x64 .f32) :
    k0_pay4 (F := Ideal) x (ix2 0 0)
      = Ideal.exp (∑ d : Fin 64, x (ix2 0 d) * x (ix2 1 d)) - Ideal.exp (∑ d : Fin 64, x (ix2 2 d) * x (ix2 3 d))
        + Ideal.ofBits .f32 0x3E4CCCCD#32 := by
  pointwise [k0_pay4]

/-- The shift subtracted from every score. -/
theorem pay5_apply (x y : Vec Ideal S1x64 .f32) :
    k0_pay5 (F := Ideal) x y (ix2 0 0)
      = Finset.fold max (Ideal.ofBits .f32 0xFF800000#32) (fun d : Fin 64 => max (x (ix2 0 d)) (-x (ix2 0 d))) Finset.univ
        * Finset.fold max (Ideal.ofBits .f32 0xFF800000#32) (fun d : Fin 64 => max (y (ix2 0 d)) (-y (ix2 0 d))) Finset.univ
        * Ideal.ofBits .f32 0x4138AA3B#32 := by
  pointwise [k0_pay5]
  rfl

/-- The row of the output before its last roundings: with `o` the difference of the two normalised attention rows, its
    root mean square norm, the weight, the factor 0.8 and the gate. -/
theorem pay93_apply (lam : FVec Ideal S1x1 .f32) (p : FVec Ideal S1024x256 .f32) (e : Vec Ideal S1x1024x8448 .bf16)
    (S : Vec Ideal S8448x256 .bf16) (sg : Vec Ideal S1x128 .f32) (z : Vec Ideal S1x1024x128 .bf16) (r : Fin 1024)
    (j : Fin 128) (o : Fin 128 → EReal)
    (ho : ∀ x : Fin 128, Ideal.div (p (ix2 r ⟨x.val, by omega⟩)) (p (ix2 r ⟨128 + x.val, by omega⟩))
      - lam (ix2 0 0) * Ideal.div (∑ k : Fin 8448, e (ix3 0 r k) * S (ix2 k ⟨x.val, by omega⟩))
          (∑ k : Fin 8448, e (ix3 0 r k) * S (ix2 k ⟨128 + x.val, by omega⟩)) = o x) :
    k0_pay93 (F := Ideal) lam p e S sg z (ix2 r j)
      = o j * Ideal.rsqrt (Ideal.div (∑ x : Fin 128, o x * o x) (Ideal.ofBits .f32 0x43000000#32)
          + Ideal.ofBits .f32 0x358637BD#32) * sg (ix2 0 j) * Ideal.ofBits .f32 0x3F4CCCCD#32
        * (z (ix3 0 r j) * Ideal.div 1 (1 + Ideal.exp2 (z (ix3 0 r j) * ((-((Real.log 2)⁻¹) : ℝ) : EReal)))) := by
  pointwise [k0_pay93]
  simp only [ho, neg_log2e]
  rfl

end Cert.KernelIdeal.AttnValue
-- ==== Proof.Attn.Softmax.lean ====
/- The equation of the attention call over the extended reals: for finite arguments, normalising sums of shifted powers of
   two gives what normalising exponentials less their maximum gives, and the difference of two attention rows may be taken
   before or after the values are summed. -/
module

public import Idealize.ShloMosaic.PureOps.Ideal

@[expose] public section

noncomputable section

namespace Cert.KernelIdeal.AttnValue

open Idealize.ShloMosaic

/-- A finite sum of reals, taken among the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real, taken among the extended reals. -/
theorem div_coe (x y : ℝ) (hy : y ≠ 0) : Ideal.div (x : EReal) (y : EReal) = ((x / y : ℝ) : EReal) := by
  have h : (y : EReal) ≠ 0 := by exact_mod_cast hy
  rw [Ideal.div, if_neg h, ← EReal.coe_inv, ← EReal.coe_mul, div_eq_mul_inv]

/-- The maximum of some reals, started from minus infinity, is a real. -/
theorem fold_max_real {ι : Type*} (s : Finset ι) (hs : s.Nonempty) (f : ι → ℝ) :
    ∃ M : ℝ, Finset.fold max (⊥ : EReal) (fun i => (f i : EReal)) s = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

/-- Powers of two of a real exponent are exponentials. -/
theorem exp2_coe (x : ℝ) : Ideal.exp2 (x : EReal) = ((Real.exp (x * Real.log 2) : ℝ) : EReal) := by
  show ((Real.rpow 2 x : ℝ) : EReal) = _
  rw [show Real.rpow 2 x = (2 : ℝ) ^ x from rfl, Real.rpow_def_of_pos (by norm_num), mul_comm]

/-- Dividing by the sum of the weights does not see a common factor of the weights. -/
theorem weights_factor {n : ℕ} (c : ℝ) (hc : c ≠ 0) (w w' v : Fin n → ℝ) (h : ∀ k, w k = c * w' k) :
    (∑ k, w k * v k) / (∑ k, w k) = ∑ k, v k * (w' k / ∑ k, w' k) := by
  simp only [h, mul_assoc, ← Finset.mul_sum]
  rw [mul_div_mul_left _ _ hc, Finset.sum_div]
  exact Finset.sum_congr rfl fun k _ => by ring

/-- One sub-head's row: the quotient of the two sums of shifted powers of two is the sum of the values weighted by the
    exponentials of the scaled scores less any real, normalised. -/
theorem row_eq {n : ℕ} (hn : 0 < n) (s v : Fin n → ℝ) (sh M : ℝ) :
    Ideal.div (∑ k, Ideal.exp2 ((s k : EReal) - (sh : EReal)) * (v k : EReal)) (∑ k, Ideal.exp2 ((s k : EReal) - (sh : EReal)) * 1)
      = ((∑ k, v k * (Real.exp (s k * Real.log 2 - M) / ∑ k, Real.exp (s k * Real.log 2 - M)) : ℝ) : EReal) := by
  have hp : ∀ k, 0 < Real.exp ((s k - sh) * Real.log 2) := fun k => Real.exp_pos _
  simp only [← EReal.coe_sub, exp2_coe, mul_one, ← EReal.coe_mul, coe_sum]
  have : Nonempty (Fin n) := ⟨⟨0, hn⟩⟩
  rw [div_coe _ _ (ne_of_gt (Finset.sum_pos (fun k _ => hp k) Finset.univ_nonempty)),
    weights_factor (Real.exp (M - sh * Real.log 2)) (Real.exp_ne_zero _) _ (fun k => Real.exp (s k * Real.log 2 - M)) v
      (fun k => by rw [← Real.exp_add]; congr 1; ring)]

/-- The reference's normalised exponential of one key, as a real. -/
theorem soft_eq {n : ℕ} (hn : 0 < n) (s : Fin n → ℝ) (M : ℝ) (k : Fin n) :
    Ideal.div (Ideal.exp ((s k : EReal) * ((Real.log 2 : ℝ) : EReal) - (M : EReal)))
        (∑ k, Ideal.exp ((s k : EReal) * ((Real.log 2 : ℝ) : EReal) - (M : EReal)))
      = ((Real.exp (s k * Real.log 2 - M) / ∑ k, Real.exp (s k * Real.log 2 - M) : ℝ) : EReal) := by
  have he : ∀ x : ℝ, Ideal.exp (x : EReal) = ((Real.exp x : ℝ) : EReal) := fun _ => rfl
  simp only [← EReal.coe_mul, ← EReal.coe_sub, he, coe_sum]
  have : Nonempty (Fin n) := ⟨⟨0, hn⟩⟩
  exact div_coe _ _ (ne_of_gt (Finset.sum_pos (fun k _ => Real.exp_pos _) Finset.univ_nonempty))

/-- The difference of the two sub-heads' rows, taken after the sums, is the sum of the values weighted by the difference
    of the normalised exponentials. -/
theorem diff_row_eq {n : ℕ} (hn : 0 < n) (s₀ s₁ v : Fin n → ℝ) (sh lam M₀ M₁ : ℝ) :
    Ideal.div (∑ k, Ideal.exp2 ((s₀ k : EReal) - (sh : EReal)) * (v k : EReal))
        (∑ k, Ideal.exp2 ((s₀ k : EReal) - (sh : EReal)) * 1)
      - (lam : EReal) * Ideal.div (∑ k, Ideal.exp2 ((s₁ k : EReal) - (sh : EReal)) * (v k : EReal))
          (∑ k, Ideal.exp2 ((s₁ k : EReal) - (sh : EReal)) * 1)
      = ∑ k, (v k : EReal) *
          (Ideal.div (Ideal.exp ((s₀ k : EReal) * ((Real.log 2 : ℝ) : EReal) - (M₀ : EReal)))
              (∑ k, Ideal.exp ((s₀ k : EReal) * ((Real.log 2 : ℝ) : EReal) - (M₀ : EReal)))
            - (lam : EReal) * Ideal.div (Ideal.exp ((s₁ k : EReal) * ((Real.log 2 : ℝ) : EReal) - (M₁ : EReal)))
                (∑ k, Ideal.exp ((s₁ k : EReal) * ((Real.log 2 : ℝ) : EReal) - (M₁ : EReal)))) := by
  rw [row_eq hn s₀ v sh M₀, row_eq hn s₁ v sh M₁]
  simp only [soft_eq hn]
  simp only [← EReal.coe_mul, ← EReal.coe_sub, coe_sum]
  congr 1
  rw [Finset.mul_sum, ← Finset.sum_sub_distrib]
  exact Finset.sum_congr rfl fun k _ => by ring

/-- The power of two of `-x / log 2` is the exponential of `-x`, at the infinities too. -/
theorem exp2_neg_log2e (x : EReal) : Ideal.exp2 (x * ((-((Real.log 2)⁻¹) : ℝ) : EReal)) = Ideal.exp (-x) := by
  have hl : 0 < Real.log 2 := Real.log_pos (by norm_num)
  have hneg : (-((Real.log 2)⁻¹) : ℝ) < 0 := neg_lt_zero.mpr (inv_pos.mpr hl)
  induction x with
  | bot => rw [EReal.bot_mul_coe_of_neg hneg]; rfl
  | top => rw [EReal.top_mul_coe_of_neg hneg]; rfl
  | coe r =>
    rw [← EReal.coe_mul, exp2_coe, ← EReal.coe_neg]
    show _ = ((Real.exp (-r) : ℝ) : EReal)
    congr 2
    field_simp

/-- A masked dot over 128 lanes, its second half cleared, is the dot over the first 64. -/
theorem sum_first_half (f g : Fin 128 → EReal) :
    (∑ d : Fin 128, (if d.val < 64 then f d else 0) * g d)
      = ∑ d : Fin 64, f ⟨d.val, by omega⟩ * g ⟨d.val, by omega⟩ := by
  refine (Fin.sum_univ_add (a := 64) (b := 64) _).trans ?_
  have h2 : (∑ i : Fin 64, (if (Fin.natAdd 64 i : Fin (64 + 64)).val < 64 then f (Fin.natAdd 64 i) else 0)
      * g (Fin.natAdd 64 i)) = 0 :=
    Finset.sum_eq_zero fun i _ => by rw [if_neg (by simp), zero_mul]
  rw [h2, add_zero]
  exact Finset.sum_congr rfl fun i _ => by
    rw [if_pos (by simp)]; rfl

/-- A masked dot over 128 lanes, its first half cleared, is the dot over the last 64. -/
theorem sum_second_half (f g : Fin 128 → EReal) :
    (∑ d : Fin 128, (if d.val < 64 then 0 else f d) * g d)
      = ∑ d : Fin 64, f ⟨64 + d.val, by omega⟩ * g ⟨64 + d.val, by omega⟩ := by
  refine (Fin.sum_univ_add (a := 64) (b := 64) _).trans ?_
  have h1 : (∑ i : Fin 64, (if (Fin.castAdd 64 i : Fin (64 + 64)).val < 64 then 0 else f (Fin.castAdd 64 i))
      * g (Fin.castAdd 64 i)) = 0 :=
    Finset.sum_eq_zero fun i _ => by rw [if_pos (by simp), zero_mul]
  rw [h1, zero_add]
  exact Finset.sum_congr rfl fun i _ => by
    rw [if_neg (by simp)]; rfl

end Cert.KernelIdeal.AttnValue
-- ==== Proof.Attn.Block.lean ====
/- One grid point of the attention call, read at one index of its output block over the extended reals. -/
module

public import proofs.«01_k».proof.Proof.Attn.Tiles
public import proofs.«01_k».proof.Proof.Attn.Payloads
public import proofs.«01_k».proof.Proof.Attn.Softmax

@[expose] public section

set_option maxRecDepth 16384

noncomputable section

namespace Cert.KernelIdeal.AttnValue

open Cert.KernelIdeal Cert.KernelIdeal.Gen Idealize.ShloMosaic

/-- A stored tile's entry: it lies in its sub-head's plane, and is the exponential of the score of its row and key. -/
theorem tiles_at (c : ℕ) (hc : c < 2) (sh : FVec Ideal S1x1 .f32) (q : FVec Ideal S1024x128 .bf16)
    (K : Vec Ideal S1x8448x128 .bf16) (p : View.Piece (Elt Ideal) S2x1024x8448 .bf16) (hp : p ∈ tiles c hc sh q K)
    (y : S2x1024x8448.Idx) (x : p.1.shape.Idx) (hx : p.1.emb x = y) :
    (y 0).val = c ∧
      p.2 x = Ideal.exp2 ((∑ d : Fin 128, q (ix2 (y 1) d) * K (ix3 0 (y 2) d)) - sh (ix2 0 0)) := by
  unfold tiles at hp
  obtain ⟨j, rfl⟩ := (List.mem_ofFn' _ _).1 hp
  have h0 : (y 0).val = c + 1 * (x 0).val := by rw [← hx]; rfl
  have h1 : (y 1).val = 0 + 1 * (x 1).val := by rw [← hx]; rfl
  have h2 : (y 2).val = 256 * (32 - j.val) + 1 * (x 2).val := by rw [← hx]; rfl
  have l0 : (x 0).val < 1 := (x 0).isLt
  refine ⟨by omega, ?_⟩
  have hxx : x = ix3 (n0 := 1) (n1 := 1024) (n2 := 256) 0 (y 1) (x 2) :=
    (eq_ix3 x).trans ((ix3_inj _ _ _ _ _ _).2 ⟨Fin.ext (by simpa using l0), Fin.ext (by show (x 1).val = (y 1).val; omega), rfl⟩)
  rw [hxx]
  refine (pay10_apply sh q _ (y 1) (x 2)).trans ?_
  refine congrArg (fun z => Ideal.exp2 (z - sh (ix2 0 0))) (Finset.sum_congr rfl fun d _ => congrArg (q (ix2 (y 1) d) * ·) ?_)
  refine View.ld_unit_apply_of _ _ _ _ _ _ fun a => ?_
  match a with
  | ⟨0, _⟩ => rfl
  | ⟨1, _⟩ => show (y 2).val = 256 * (32 - j.val) + (x 2).val; omega
  | ⟨2, _⟩ => show d.val = 0 + d.val; omega

/-- Every entry of a sub-head's plane is stored by one of its tiles. -/
theorem tiles_cover (c : ℕ) (hc : c < 2) (sh : FVec Ideal S1x1 .f32) (q : FVec Ideal S1024x128 .bf16)
    (K : Vec Ideal S1x8448x128 .bf16) (y : S2x1024x8448.Idx) (hy : (y 0).val = c) :
    ∃ p ∈ tiles c hc sh q K, y ∈ p.1.set := by
  have l2 : (y 2).val < 8448 := (y 2).isLt
  have l1 : (y 1).val < 1024 := (y 1).isLt
  refine ⟨_, (List.mem_ofFn' _ _).2 ⟨⟨32 - (y 2).val / 256, by omega⟩, rfl⟩, ?_⟩
  show y ∈ (Rect.unit (s := S2x1024x8448) ![c, 0, 256 * (32 - (32 - (y 2).val / 256))] S1x1024x256.size (tile_inb c _ hc (by omega))).set
  rw [Rect.mem_set_unit]
  intro a
  match a with
  | ⟨0, _⟩ => exact ⟨by show c ≤ (y 0).val; omega, by show (y 0).val < c + 1; omega⟩
  | ⟨1, _⟩ => exact ⟨by show 0 ≤ (y 1).val; omega, by show (y 1).val < 0 + 1024; omega⟩
  | ⟨2, _⟩ =>
    exact ⟨by show 256 * (32 - (32 - (y 2).val / 256)) ≤ (y 2).val; omega,
      by show (y 2).val < 256 * (32 - (32 - (y 2).val / 256)) + 256; omega⟩

/-- The exponential of one sub-head's shifted score of row `r` with key `k`: the sub-head's 64 lanes start at lane `64 h`. -/
def expo (x0 : Vec Ideal S1x1024x128 .bf16) (x1 : Vec Ideal S1x8448x128 .bf16) (sh : EReal) (h : Fin 2) (r : Fin 1024)
    (k : Fin 8448) : EReal :=
  Ideal.exp2 ((∑ d : Fin 64, x0 (ix3 0 r ⟨64 * h.val + d.val, by omega⟩) * x1 (ix3 0 k ⟨64 * h.val + d.val, by omega⟩)) - sh)

/-- The first sub-head's exponentials as read back. -/
theorem e0_apply (x0 : Vec Ideal S1x1024x128 .bf16) (x1 : Vec Ideal S1x8448x128 .bf16) (sh : FVec Ideal S1x1 .f32)
    (r : Fin 1024) (k : Fin 8448) : e0 x0 x1 sh (ix3 0 r k) = expo x0 x1 (sh (ix2 0 0)) 0 r k := by
  have hy : ((Rect.unit (s := S2x1024x8448) ![0, 0, 0] S1x1024x8448.size inb_S2x1024x8448_S1x1024x8448_0_0_0).toLoadRect.idx
      (ix3 0 r k)) = ix3 (n0 := 2) (n1 := 1024) (n2 := 8448) 0 r k := by
    funext a
    refine Fin.ext ((Rect.idx_unit_val _ _ _ _ a).trans ?_)
    match a with
    | ⟨0, _⟩ => rfl
    | ⟨1, _⟩ => show 0 + r.val = r.val; omega
    | ⟨2, _⟩ => show 0 + k.val = k.val; omega
  unfold e0
  rw [hy]
  refine View.canon_eq_of_allAt _ _ _ (tiles_cover 0 _ _ _ _ _ rfl) fun p hp x hx => ?_
  rw [(tiles_at 0 _ _ _ _ p hp _ x hx).2]
  unfold expo q0
  refine congrArg (fun z => Ideal.exp2 (z - sh (ix2 0 0))) ?_
  simp only [pay8_apply, ix3_1, ix3_2]
  refine (sum_first_half (fun d => x0 (ix3 0 r d)) (fun d => x1 (ix3 0 k d))).trans ?_
  refine Finset.sum_congr rfl fun d _ => ?_
  simp

/-- The second sub-head's exponentials as read back. -/
theorem e1_apply (x0 : Vec Ideal S1x1024x128 .bf16) (x1 : Vec Ideal S1x8448x128 .bf16) (sh : FVec Ideal S1x1 .f32)
    (r : Fin 1024) (k : Fin 8448) : e1 x0 x1 sh (ix3 0 r k) = expo x0 x1 (sh (ix2 0 0)) 1 r k := by
  have hy : ((Rect.unit (s := S2x1024x8448) ![1, 0, 0] S1x1024x8448.size inb_S2x1024x8448_S1x1024x8448_1_0_0).toLoadRect.idx
      (ix3 0 r k)) = ix3 (n0 := 2) (n1 := 1024) (n2 := 8448) 1 r k := by
    funext a
    refine Fin.ext ((Rect.idx_unit_val _ _ _ _ a).trans ?_)
    match a with
    | ⟨0, _⟩ => rfl
    | ⟨1, _⟩ => show 0 + r.val = r.val; omega
    | ⟨2, _⟩ => show 0 + k.val = k.val; omega
  unfold e1 tiles2
  rw [hy]
  refine View.canon_eq_of_allAt _ _ _ ?_ fun p hp x hx => ?_
  · obtain ⟨p, hp, hm⟩ := tiles_cover 1 (by omega) sh (q1 x0) x1 (ix3 (n0 := 2) (n1 := 1024) (n2 := 8448) 1 r k) rfl
    exact ⟨p, List.mem_append_left _ hp, hm⟩
  rcases List.mem_append.1 hp with hp | hp
  · rw [(tiles_at 1 _ _ _ _ p hp _ x hx).2]
    unfold expo q1
    refine congrArg (fun z => Ideal.exp2 (z - sh (ix2 0 0))) ?_
    refine Eq.trans (Finset.sum_congr rfl fun d _ => congrArg (· * x1 (ix3 0 k d)) (pay9_apply x0 r d)) ?_
    exact sum_second_half (fun d => x0 (ix3 0 r d)) (fun d => x1 (ix3 0 k d))
  · exact absurd (tiles_at 0 _ _ _ _ p hp _ x hx).1 (by simp)

/-- The value scratch's left half holds the values. -/
theorem vs_left (x2 : Vec Ideal S1x8448x128 .bf16) (k : Fin 8448) (j : Fin 128) :
    vs x2 (ix2 k ⟨j.val, by omega⟩) = x2 (ix3 0 k j) := by
  unfold vs
  canon_tiles x h
  · exact absurd (show j.val = 128 + (x 1).val from h1) (by omega)
  · have hx : x = ix2 (n0 := 8448) (n1 := 128) k j :=
      (eq_ix2 x).trans ((ix2_inj _ _ _ _).2 ⟨Fin.ext h0.symm, Fin.ext h1.symm⟩)
    rw [hx, pay2_apply]

/-- Its right half holds ones. -/
theorem vs_right (x2 : Vec Ideal S1x8448x128 .bf16) (k : Fin 8448) (j : Fin 128) :
    vs x2 (ix2 k ⟨128 + j.val, by omega⟩) = 1 := by
  unfold vs
  canon_tiles x h
  · exact (congrArg _ (eq_ix2 x)).trans (pay3_apply (x 0) (x 1))
  · exact absurd (show 128 + j.val = (x 1).val from h1) (by omega)

/-- The difference of the two sub-heads' normalised rows, from the unnormalised sums. -/
def rowOf (x0 : Vec Ideal S1x1024x128 .bf16) (x1 x2 : Vec Ideal S1x8448x128 .bf16) (sh lam : EReal) (r : Fin 1024)
    (j : Fin 128) : EReal :=
  Ideal.div (∑ k : Fin 8448, expo x0 x1 sh 0 r k * x2 (ix3 0 k j)) (∑ k : Fin 8448, expo x0 x1 sh 0 r k * 1)
    - lam * Ideal.div (∑ k : Fin 8448, expo x0 x1 sh 1 r k * x2 (ix3 0 k j)) (∑ k : Fin 8448, expo x0 x1 sh 1 r k * 1)

/-- The output block of a point whose value scratch was filled from the value block `x2`, at one index. -/
theorem blk_apply (x0 : Vec Ideal S1x1024x128 .bf16) (x1 x2 : Vec Ideal S1x8448x128 .bf16)
    (x3 : Vec Ideal S1x1024x128 .bf16) (x4 : Vec Ideal S4x64 .f32) (x5 x6 : Vec Ideal S1x64 .f32)
    (x7 : Vec Ideal S1x128 .f32) (r : Fin 1024) (j : Fin 128) :
    blk x0 x1 (vs x2) x3 x4 x5 x6 x7 (ix3 0 r j)
      = rowOf x0 x1 x2 (k0_pay5 (F := Ideal) x5 x6 (ix2 0 0)) (k0_pay4 (F := Ideal) x4 (ix2 0 0)) r j
        * Ideal.rsqrt (Ideal.div
            (∑ x : Fin 128, rowOf x0 x1 x2 (k0_pay5 (F := Ideal) x5 x6 (ix2 0 0)) (k0_pay4 (F := Ideal) x4 (ix2 0 0)) r x
              * rowOf x0 x1 x2 (k0_pay5 (F := Ideal) x5 x6 (ix2 0 0)) (k0_pay4 (F := Ideal) x4 (ix2 0 0)) r x)
            (Ideal.ofBits .f32 0x43000000#32) + Ideal.ofBits .f32 0x358637BD#32)
        * x7 (ix2 0 j) * Ideal.ofBits .f32 0x3F4CCCCD#32
        * (x3 (ix3 0 r j) * Ideal.div 1 (1 + Ideal.exp2 (x3 (ix3 0 r j) * ((-((Real.log 2)⁻¹) : ℝ) : EReal)))) := by
  unfold blk
  rw [pay1_apply]
  refine pay93_apply _ _ _ _ _ _ r j _ fun x => ?_
  simp only [pay52_apply, e0_apply, e1_apply, vs_left, vs_right]
  rfl

end Cert.KernelIdeal.AttnValue
-- ==== Proof.Attn.Array.lean ====
/- The attention call's output array at an index of its latent rows, as one function of the call's arguments: the blocks of
   the grid's points put together. -/
module

public import proofs.«01_k».proof.Proof.Attn.Block
public import proofs.«01_k».proof.Proof.Gen.KernelIdeal.Value
public import Idealize.ShloMosaic.Lib.Pipeline.ValueKit.Partial
public import Idealize.ShloMosaic.Lib.Pipeline.ValueKit.Point

@[expose] public section

set_option maxRecDepth 16384

noncomputable section

namespace Cert.KernelIdeal.AttnValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## Where the blocks lie -/

/-- The block of the queries at a point. -/
theorem index0 : ∀ t : Fin cfg0.N, win0_0.index t = ![t.val / 64, t.val % 8, t.val / 8 % 8] := by decide +kernel
/-- The block of the keys at a point. -/
theorem index1 : ∀ t : Fin cfg0.N, win0_1.index t = ![t.val / 64, 0, t.val / 8 % 8] := by decide +kernel
/-- The block of the values at a point. -/
theorem index2 : ∀ t : Fin cfg0.N, win0_2.index t = ![t.val / 64, 0, 24 + t.val / 8 % 8] := by decide +kernel
/-- The block of the gates at a point. -/
theorem index3 : ∀ t : Fin cfg0.N, win0_3.index t = ![t.val / 64, t.val % 8, 32 + t.val / 8 % 8] := by decide +kernel
/-- The only block of the lambda parameters. -/
theorem index4 : ∀ t : Fin cfg0.N, win0_4.index t = ![0, 0] := by decide +kernel
/-- The only block of the query scale. -/
theorem index5 : ∀ t : Fin cfg0.N, win0_5.index t = ![0, 0] := by decide +kernel
/-- The only block of the key scale. -/
theorem index6 : ∀ t : Fin cfg0.N, win0_6.index t = ![0, 0] := by decide +kernel
/-- The only block of the output scale. -/
theorem index7 : ∀ t : Fin cfg0.N, win0_7.index t = ![0, 0] := by decide +kernel
/-- The block of the output at a point. -/
theorem index8 : ∀ t : Fin cfg0.N, win0_8.index t = ![t.val / 64, t.val % 8, t.val / 8 % 8] := by decide +kernel

/-- No block of the output is cut. -/
theorem xsize0_8 : ∀ t : Fin cfg0.N, ∀ a, (cfg0.win 8).xsize (cfg0.grid.coords t) a = (cfg0.win 8).size a := by decide +kernel

/-- The grid has 256 points. -/
theorem lt_256 (t : Fin cfg0.N) : t.val < 256 := lt_of_lt_of_eq t.isLt (show cfg0.N = 256 from N_0)

/-- The query block at an index. -/
theorem queries_at (c : Dev nD) (t : Fin cfg0.N) (r : Fin 1024) (d : Fin 128) :
    X0_0 m c t (ix3 (n0 := 1) 0 r d) = m ((c : Thread nD τ).loc main_arg0)
      (ix3 (n0 := 4) (n1 := 8448) (n2 := 1024) ⟨t.val / 64, by have := lt_256 t; omega⟩ ⟨t.val % 8 * 1024 + r.val, by omega⟩
        ⟨t.val / 8 % 8 * 128 + d.val, by omega⟩) := by
  unfold X0_0 Pipeline.Window.fill
  rw [dif_pos (moved0_0 t _)]
  blk_simp [iblk]
  refine congrArg _ ?_
  blk_ext! [index0]

/-- The key block at an index. -/
theorem keys_at (c : Dev nD) (t : Fin cfg0.N) (k : Fin 8448) (d : Fin 128) :
    iblk m c 1 t (ix3 (n0 := 1) 0 k d) = m ((c : Thread nD τ).loc main_arg1)
      (ix3 (n0 := 4) (n1 := 8448) (n2 := 1024) ⟨t.val / 64, by have := lt_256 t; omega⟩ k
        ⟨t.val / 8 % 8 * 128 + d.val, by omega⟩) := by
  blk_simp [iblk]
  refine congrArg _ ?_
  blk_ext! [index1]

/-- The value block at an index. -/
theorem values_at (c : Dev nD) (t : Fin cfg0.N) (k : Fin 8448) (j : Fin 128) :
    iblk m c 2 t (ix3 (n0 := 1) 0 k j) = m ((c : Thread nD τ).loc main_arg2)
      (ix3 (n0 := 4) (n1 := 8448) (n2 := 13824) ⟨t.val / 64, by have := lt_256 t; omega⟩ k
        ⟨(24 + t.val / 8 % 8) * 128 + j.val, by omega⟩) := by
  blk_simp [iblk]
  refine congrArg _ ?_
  blk_ext! [index2]

/-- The gate block at an index. -/
theorem gates_at (c : Dev nD) (t : Fin cfg0.N) (r : Fin 1024) (j : Fin 128) :
    X0_3 m c t (ix3 (n0 := 1) 0 r j) = m ((c : Thread nD τ).loc main_arg2)
      (ix3 (n0 := 4) (n1 := 8448) (n2 := 13824) ⟨t.val / 64, by have := lt_256 t; omega⟩ ⟨t.val % 8 * 1024 + r.val, by omega⟩
        ⟨(32 + t.val / 8 % 8) * 128 + j.val, by omega⟩) := by
  unfold X0_3 Pipeline.Window.fill
  rw [dif_pos (moved0_3 t _)]
  blk_simp [iblk]
  refine congrArg _ ?_
  blk_ext! [index3]

/-- The whole of the lambda parameters is staged at every point. -/
theorem lam_at (c : Dev nD) (t : Fin cfg0.N) : iblk m c 4 t = m ((c : Thread nD τ).loc main_arg3) := by
  funext i
  blk_simp [iblk]
  refine congrArg _ ?_
  blk_ext! [index4]

/-- The whole of the query scale is staged at every point. -/
theorem gq_at (c : Dev nD) (t : Fin cfg0.N) : iblk m c 5 t = m ((c : Thread nD τ).loc main_arg4) := by
  funext i
  blk_simp [iblk]
  refine congrArg _ ?_
  blk_ext! [index5]

/-- The whole of the key scale is staged at every point. -/
theorem gk_at (c : Dev nD) (t : Fin cfg0.N) : iblk m c 6 t = m ((c : Thread nD τ).loc main_arg5) := by
  funext i
  blk_simp [iblk]
  refine congrArg _ ?_
  blk_ext! [index6]

/-- The whole of the output scale is staged at every point. -/
theorem sg_at (c : Dev nD) (t : Fin cfg0.N) : iblk m c 7 t = m ((c : Thread nD τ).loc main_arg6) := by
  funext i
  blk_simp [iblk]
  refine congrArg _ ?_
  blk_ext! [index7]

/-! ## The value scratch, carried along the query blocks of a head -/

/-- The value block does not move along the query blocks of a head. -/
theorem values_step (c : Dev nD) (t t' : Fin cfg0.N) (h : t.val / 8 = t'.val / 8) :
    (iblk m c 2 t : Vec Ideal S1x8448x128 .bf16) = iblk m c 2 t' := by
  funext i
  have hi : i = ix3 (n0 := 1) (n1 := 8448) (n2 := 128) 0 (i 1) (i 2) := by
    refine (eq_ix3 (n0 := 1) (n1 := 8448) (n2 := 128) i).trans ?_
    congr 1
    exact Subsingleton.elim (α := Fin 1) _ _
  rw [hi]
  refine (values_at m c t (i 1) (i 2)).trans (Eq.trans ?_ (values_at m c t' (i 1) (i 2)).symm)
  refine congrArg _ ?_
  have h64 : t.val / 64 = t'.val / 64 := by omega
  simp only [h64, h]

/-- The value scratch after any point holds that point's value block. -/
theorem scratch (c : Dev nD) (n : ℕ) (hn : n < cfg0.N) : (outsAt0 m c n hn).2 = vs (iblk m c 2 ⟨n, hn⟩) := by
  induction n with
  | zero => exact scratch_A m c ⟨0, hn⟩ rfl
  | succ n ih =>
    by_cases h0 : (n + 1) % 8 = 0
    · exact scratch_A m c ⟨n + 1, hn⟩ h0
    · refine (scratch_B m c ⟨n + 1, hn⟩ h0).trans ?_
      refine (ih (Nat.lt_of_succ_lt hn)).trans (congrArg vs (values_step m c _ _ ?_))
      show n / 8 = (n + 1) / 8
      omega

/-- The output block of any point. -/
theorem after_all (c : Dev nD) (t : Fin cfg0.N) :
    (outsAt0 m c t.val t.isLt).1 = blk (X0_0 m c t) (iblk m c 1 t) (vs (iblk m c 2 t)) (X0_3 m c t) (iblk m c 4 t)
      (iblk m c 5 t) (iblk m c 6 t) (iblk m c 7 t) := by
  by_cases h0 : t.val % 8 = 0
  · exact after_A m c t h0
  · rw [after_B m c t h0, scratch]
    refine congrArg (fun S => blk _ _ (vs S) _ _ _ _ _) (values_step m c _ _ ?_)
    show (t.val - 1) / 8 = t.val / 8
    omega

/-! ## The call's output at a latent row, from its arguments -/

/-- The unnormalised weight of key `k` for row `row` of batch `b`, in sub-head `s` of head `h`. -/
def weight (a0 a1 : Vec Ideal S4x8448x1024 .bf16) (sh : EReal) (b : Fin 4) (h : Fin 8) (row : Fin 8448) (s : Fin 2)
    (k : Fin 8448) : EReal :=
  Ideal.exp2 ((∑ d : Fin 64, a0 (ix3 b row ⟨h.val * 128 + (64 * s.val + d.val), by omega⟩)
    * a1 (ix3 b k ⟨h.val * 128 + (64 * s.val + d.val), by omega⟩)) - sh)

/-- The difference of the two sub-heads' normalised rows. -/
def diffRow (a0 a1 : Vec Ideal S4x8448x1024 .bf16) (a2 : Vec Ideal S4x8448x13824 .bf16) (sh lam : EReal) (b : Fin 4)
    (h : Fin 8) (row : Fin 8448) (j : Fin 128) : EReal :=
  Ideal.div (∑ k : Fin 8448, weight a0 a1 sh b h row 0 k * a2 (ix3 b k ⟨(24 + h.val) * 128 + j.val, by omega⟩))
      (∑ k : Fin 8448, weight a0 a1 sh b h row 0 k * 1)
    - lam * Ideal.div (∑ k : Fin 8448, weight a0 a1 sh b h row 1 k * a2 (ix3 b k ⟨(24 + h.val) * 128 + j.val, by omega⟩))
      (∑ k : Fin 8448, weight a0 a1 sh b h row 1 k * 1)

/-- A row `D` of one head normalised by its root mean square, scaled by `sg` and by 0.8 and gated by `z`: what both programs
    do with the difference of the two sub-heads. -/
def finish (D : Fin 128 → EReal) (sg z : EReal) (j : Fin 128) : EReal :=
  D j * Ideal.rsqrt (Ideal.div (∑ x : Fin 128, D x * D x) (Ideal.ofBits .f32 0x43000000#32) + Ideal.ofBits .f32 0x358637BD#32)
    * sg * Ideal.ofBits .f32 0x3F4CCCCD#32 * (z * Ideal.div 1 (1 + Ideal.exp (-z)))

/-- The call's output, row `row` and lane `j` of head `h`. -/
def attn (a0 a1 : Vec Ideal S4x8448x1024 .bf16) (a2 : Vec Ideal S4x8448x13824 .bf16) (a3 : Vec Ideal S4x64 .f32)
    (a4 a5 : Vec Ideal S1x64 .f32) (a6 : Vec Ideal S1x128 .f32) (b : Fin 4) (row : Fin 8448) (h : Fin 8) (j : Fin 128) : EReal :=
  finish (diffRow a0 a1 a2 (k0_pay5 (F := Ideal) a4 a5 (ix2 0 0)) (k0_pay4 (F := Ideal) a3 (ix2 0 0)) b h row)
    (a6 (ix2 0 j)) (a2 (ix3 b row ⟨(32 + h.val) * 128 + j.val, by omega⟩)) j

/-- A point's row of one head, from the arguments. -/
theorem rowOf_eq (c : Dev nD) (t : Fin cfg0.N) (sh lam : EReal) (r : Fin 1024) (j : Fin 128) :
    rowOf (X0_0 m c t) (iblk m c 1 t) (iblk m c 2 t) sh lam r j
      = diffRow (m ((c : Thread nD τ).loc main_arg0)) (m ((c : Thread nD τ).loc main_arg1)) (m ((c : Thread nD τ).loc main_arg2))
          sh lam ⟨t.val / 64, by have := lt_256 t; omega⟩ ⟨t.val / 8 % 8, by omega⟩ ⟨t.val % 8 * 1024 + r.val, by omega⟩ j := by
  have hw : ∀ (s : Fin 2) (k : Fin 8448), expo (X0_0 m c t) (iblk m c 1 t) sh s r k
      = weight (m ((c : Thread nD τ).loc main_arg0)) (m ((c : Thread nD τ).loc main_arg1)) sh
          ⟨t.val / 64, by have := lt_256 t; omega⟩ ⟨t.val / 8 % 8, by omega⟩ ⟨t.val % 8 * 1024 + r.val, by omega⟩ s k := by
    intro s k
    unfold expo weight
    refine congrArg (fun x => Ideal.exp2 (x - sh)) (Finset.sum_congr rfl fun d _ => ?_)
    exact congrArg₂ (· * ·) (queries_at m c t r ⟨64 * s.val + d.val, by omega⟩) (keys_at m c t k ⟨64 * s.val + d.val, by omega⟩)
  unfold rowOf diffRow
  simp only [hw]
  have hv : ∀ k : Fin 8448, (iblk m c 2 t : Vec Ideal S1x8448x128 .bf16) (ix3 0 k j) = _ := fun k => values_at m c t k j
  simp only [hv]

/-- What a point leaves in its output block, from the arguments. -/
theorem point_at (c : Dev nD) (t : Fin cfg0.N) (r : Fin 1024) (j : Fin 128) :
    (outsAt0 m c t.val t.isLt).1 (ix3 0 r j)
      = attn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))
          ⟨t.val / 64, by have := lt_256 t; omega⟩ ⟨t.val % 8 * 1024 + r.val, by omega⟩ ⟨t.val / 8 % 8, by omega⟩ j := by
  rw [after_all, blk_apply]
  simp only [rowOf_eq, exp2_neg_log2e]
  have hz : (X0_3 m c t : Vec Ideal S1x1024x128 .bf16) (ix3 0 r j) = _ := gates_at m c t r j
  rw [hz]
  unfold attn finish
  have h4 := lam_at m c t
  have h5 := gq_at m c t
  have h6 := gk_at m c t
  have h7 := sg_at m c t
  rw [h4, h5, h6, h7]

/-- The output array after the run, at an index of its latent rows. -/
theorem array_at (c : Dev nD) (i : S4x8448x1024.Idx) (hi : (i 1).val < 8192) :
    (dats m 0 c).arrAt 8 cfg0.N i
      = attn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (i 0) (i 1)
          ⟨(i 2).val / 128, by have : (i 2).val < 1024 := (i 2).isLt; omega⟩ ⟨(i 2).val % 128, by omega⟩ := by
  refine ((dats m 0 c).arrAt_apply_of_coversWhere 8
    (fun i : S4x8448x1024.Idx =>
      attn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (i 0) (i 1)
        ⟨(i 2).val / 128, by have : (i 2).val < 1024 := (i 2).isLt; omega⟩ ⟨(i 2).val % 128, by omega⟩)
    (P := fun i : S4x8448x1024.Idx => (i 1).val / 1024 < 8) (fun β => β (1 : Fin 3) < 8) (by decide +kernel)
    (fun t hf y => ?_) (fun j => Iff.rfl) i).trans (if_pos (by show (i 1).val / 1024 < 8; omega))
  blk_simp
  rw [after0_8]
  have hy0 : (y 0).val < 1 := lt_of_lt_of_eq (y 0).isLt (xsize0_8 t 0)
  have hy1 : (y 1).val < 1024 := lt_of_lt_of_eq (y 1).isLt (xsize0_8 t 1)
  have hy2 : (y 2).val < 128 := lt_of_lt_of_eq (y 2).isLt (xsize0_8 t 2)
  have hx : (cfg0.win 8).xinj (cfg0.grid.coords t) y
      = ix3 (n0 := 1) (n1 := 1024) (n2 := 128) 0 ⟨(y 1).val, hy1⟩ ⟨(y 2).val, hy2⟩ := by
    funext a
    refine Fin.ext ?_
    match a with
    | ⟨0, _⟩ => show (y 0).val = 0; omega
    | ⟨1, _⟩ => rfl
    | ⟨2, _⟩ => rfl
  rw [hx]
  refine (point_at m c t _ _).trans ?_
  have hb : (win0_8.blk t).view.emb y 0 = (⟨t.val / 64, by have := lt_256 t; omega⟩ : Fin 4) :=
    Fin.ext (by blk_simp [index8]; show t.val / 64 + (y 0).val = t.val / 64; omega)
  have hr : (win0_8.blk t).view.emb y 1 = (⟨t.val % 8 * 1024 + (y 1).val, by omega⟩ : Fin 8448) :=
    Fin.ext (by blk_simp [index8])
  have hc : win0_8.index t 2 = t.val / 8 % 8 := by rw [index8]; rfl
  rw [hb, hr]
  refine congrArg₂ (attn _ _ _ _ _ _ _ _ _) (Fin.ext ?_) (Fin.ext ?_)
  · show t.val / 8 % 8 = (win0_8.index t 2 * 128 + (y 2).val) / 128
    omega
  · show (y 2).val = (win0_8.index t 2 * 128 + (y 2).val) % 128
    omega

end Cert.KernelIdeal.AttnValue
-- ==== Proof.Attn.Reference.lean ====
/- The attention reference read at one index, over the extended reals. -/
module

public import proofs.«01_k».proof.Proof.Gen.ReferenceIdeal.Read
public import Idealize.ShloMosaic.Lib.Pointwise
public import Idealize.ShloMosaic.Lib.IdealHost

@[expose] public section

set_option maxRecDepth 16384

noncomputable section

namespace Cert.ReferenceIdeal.Read

open Cert.ReferenceIdeal Cert.ReferenceIdeal.Gen Idealize.ShloMosaic

/-- The product of one query row with one key, in one sub-head. -/
theorem score_at (a0 a1 : FVec Ideal S4x8448x1024 .bf16) (b : Fin 4) (h : Fin 8) (s : Fin 2) (row : Fin 8192) (k : Fin 8448) :
    val_main_v26 (F := Ideal) a0 a1 (ix5 b h s row k)
      = ∑ d : Fin 64, a0 (ix3 b ⟨row.val, by omega⟩ ⟨h.val * 128 + (64 * s.val + d.val), by omega⟩)
          * a1 (ix3 b k ⟨h.val * 128 + (64 * s.val + d.val), by omega⟩) := by
  rw [val_main_v26_apply]
  refine Finset.sum_congr rfl fun d _ => ?_
  rw [val_main_v2_apply, val_main_v1_apply, val_main_v0_apply, val_main_v4_apply, val_main_v3_apply]
  refine congrArg₂ (· * ·) (congrArg a0 ?_) (congrArg a1 ?_)
  · funext a
    refine Fin.ext ?_
    match a with
    | ⟨0, _⟩ => simp [ix3, ix5]; omega
    | ⟨1, _⟩ => simp [ix3, ix5]; omega
    | ⟨2, _⟩ => simp [ix3, ix5]; omega
  · funext a
    refine Fin.ext ?_
    match a with
    | ⟨0, _⟩ => simp [ix3, ix5]; omega
    | ⟨1, _⟩ => simp [ix3, ix5]; omega
    | ⟨2, _⟩ => simp [ix3, ix5]; omega

/-- The maximum over the keys. -/
theorem max_at (a0 a1 : FVec Ideal S4x8448x1024 .bf16) (b : Fin 4) (h : Fin 8) (s : Fin 2) (row : Fin 8192) :
    val_main_v30 (F := Ideal) a0 a1 (ix4 b h s row)
      = Finset.univ.fold max (Ideal.ofBits .f32 0xFF800000#32) fun k : Fin 8448 => val_main_v29 (F := Ideal) a0 a1 (ix5 b h s row k) := by
  unfold val_main_v30
  generalize val_main_v29 (F := Ideal) a0 a1 = y
  pointwise
  rfl

/-- The result before its padding. -/
theorem pad_at (a0 a1 : FVec Ideal S4x8448x1024 .bf16) (a2 : FVec Ideal S4x8448x13824 .bf16) (a3 : FVec Ideal S4x64 .f32)
    (a6 : FVec Ideal S1x128 .f32) (b : Fin 4) (row : Fin 8192) (col : Fin 1024) :
    val_main_v70 (F := Ideal) a0 a1 a2 a3 a6 (ix3 b ⟨row.val, by omega⟩ col)
      = val_main_v68 (F := Ideal) a0 a1 a2 a3 a6 (ix3 b row col) := by
  rw [val_main_v70_apply]
  unfold val_main_v69
  generalize val_main_v68 (F := Ideal) a0 a1 a2 a3 a6 = y
  pointwise

/-- A score is the product times the logarithm of two. -/
theorem scaled_at (a0 a1 : FVec Ideal S4x8448x1024 .bf16) (b : Fin 4) (h : Fin 8) (s : Fin 2) (row : Fin 8192) (k : Fin 8448) :
    val_main_v29 (F := Ideal) a0 a1 (ix5 b h s row k)
      = val_main_v26 (F := Ideal) a0 a1 (ix5 b h s row k) * Ideal.log (Ideal.ofBits .f32 0x40000000#32) := by
  rw [val_main_v29_apply, val_main_v28_apply, val_main_v27_apply]
  rfl

/-- The subtracted maximum. -/
theorem top_at (a0 a1 : FVec Ideal S4x8448x1024 .bf16) (b : Fin 4) (h : Fin 8) (s : Fin 2) (row : Fin 8192) :
    val_main_v32 (F := Ideal) a0 a1 (ix4 b h s row)
      = max (Ideal.ofBits .f32 0xFF800000#32) (val_main_v30 (F := Ideal) a0 a1 (ix4 b h s row)) := by
  rw [val_main_v32_apply, val_main_v31_apply]
  rfl

/-- An exponential of a score less the maximum. -/
theorem exp_at (a0 a1 : FVec Ideal S4x8448x1024 .bf16) (b : Fin 4) (h : Fin 8) (s : Fin 2) (row : Fin 8192) (k : Fin 8448) :
    val_main_v36 (F := Ideal) a0 a1 (ix5 b h s row k)
      = Ideal.exp (val_main_v29 (F := Ideal) a0 a1 (ix5 b h s row k) - val_main_v32 (F := Ideal) a0 a1 (ix4 b h s row)) := by
  rw [val_main_v36_apply, val_main_v35_apply, val_main_v34_apply, val_main_v33_apply]
  refine congrArg (fun x => Ideal.exp (val_main_v29 (F := Ideal) a0 a1 (ix5 b h s row k) - val_main_v32 (F := Ideal) a0 a1 x)) ?_
  funext a
  match a with
  | ⟨0, _⟩ => rfl
  | ⟨1, _⟩ => rfl
  | ⟨2, _⟩ => rfl
  | ⟨3, _⟩ => rfl

/-- A normalised exponential. -/
theorem soft_at (a0 a1 : FVec Ideal S4x8448x1024 .bf16) (b : Fin 4) (h : Fin 8) (s : Fin 2) (row : Fin 8192) (k : Fin 8448) :
    val_main_v40 (F := Ideal) a0 a1 (ix5 b h s row k)
      = Ideal.div (val_main_v36 (F := Ideal) a0 a1 (ix5 b h s row k))
          (∑ k : Fin 8448, val_main_v36 (F := Ideal) a0 a1 (ix5 b h s row k)) := by
  rw [val_main_v40_apply, val_main_v39_apply, val_main_v38_apply, val_main_v37_apply]
  refine congrArg (Ideal.div _) ?_
  have h0 : val_main_cst_5 (F := Ideal) (Shape.Idx.first h_S_) = 0 := by
    show Ideal.ofBits .f32 0x00000000#32 = 0
    exact Ideal.ofBits_zero .f32
  rw [h0, zero_add]
  refine Finset.sum_congr rfl fun k' _ => congrArg (val_main_v36 (F := Ideal) a0 a1) ?_
  funext a
  match a with
  | ⟨0, _⟩ => rfl
  | ⟨1, _⟩ => rfl
  | ⟨2, _⟩ => rfl
  | ⟨3, _⟩ => rfl
  | ⟨4, _⟩ => rfl

/-- The difference of the two sub-heads' normalised exponentials. -/
theorem diff_at (a0 a1 : FVec Ideal S4x8448x1024 .bf16) (a3 : FVec Ideal S4x64 .f32) (b : Fin 4) (h : Fin 8) (row : Fin 8192)
    (k : Fin 8448) :
    val_main_v47 (F := Ideal) a0 a1 a3 (ix4 b h row k)
      = val_main_v40 (F := Ideal) a0 a1 (ix5 b h 0 row k)
        - val_main_v25 (F := Ideal) a3 (fun a => a.elim0) * val_main_v40 (F := Ideal) a0 a1 (ix5 b h 1 row k) := by
  rw [val_main_v47_apply, val_main_v46_apply, val_main_v45_apply, val_main_v44_apply, val_main_v43_apply, val_main_v42_apply,
    val_main_v41_apply]
  have e0 : idx_main_v41 (idx_main_v42 (ix4 b h row k)) = ix5 b h 0 row k := by
    funext a
    refine Fin.ext ?_
    match a with
    | ⟨0, _⟩ => simp [ix4, ix5]; omega
    | ⟨1, _⟩ => simp [ix4, ix5]; omega
    | ⟨2, _⟩ => simp [ix4, ix5]
    | ⟨3, _⟩ => simp [ix4, ix5]; omega
    | ⟨4, _⟩ => simp [ix4, ix5]
  have e1 : idx_main_v43 (idx_main_v44 (ix4 b h row k)) = ix5 b h 1 row k := by
    funext a
    refine Fin.ext ?_
    match a with
    | ⟨0, _⟩ => simp [ix4, ix5]; omega
    | ⟨1, _⟩ => simp [ix4, ix5]; omega
    | ⟨2, _⟩ => simp [ix4, ix5]
    | ⟨3, _⟩ => simp [ix4, ix5]; omega
    | ⟨4, _⟩ => simp [ix4, ix5]
  rw [e0, e1]
  rfl

/-- A row of one head: the values weighted by the differences. -/
theorem row_at (a0 a1 : FVec Ideal S4x8448x1024 .bf16) (a2 : FVec Ideal S4x8448x13824 .bf16) (a3 : FVec Ideal S4x64 .f32)
    (b : Fin 4) (row : Fin 8192) (h : Fin 8) (j : Fin 128) :
    val_main_v49 (F := Ideal) a0 a1 a2 a3 (ix4 b row h j)
      = ∑ k : Fin 8448, a2 (ix3 b k ⟨(24 + h.val) * 128 + j.val, by omega⟩) * val_main_v47 (F := Ideal) a0 a1 a3 (ix4 b h row k) := by
  rw [val_main_v49_apply, val_main_v48_apply]
  refine Finset.sum_congr rfl fun k _ => ?_
  rw [val_main_v7_apply, val_main_v6_apply, val_main_v5_apply]
  refine congrArg₂ (· * ·) (congrArg a2 ?_) (congrArg (val_main_v47 (F := Ideal) a0 a1 a3) ?_)
  · funext a
    refine Fin.ext ?_
    match a with
    | ⟨0, _⟩ => simp [ix3, ix4]; omega
    | ⟨1, _⟩ => simp [ix3, ix4]; omega
    | ⟨2, _⟩ => simp [ix3, ix4]; omega
  · funext a
    match a with
    | ⟨0, _⟩ => rfl
    | ⟨1, _⟩ => rfl
    | ⟨2, _⟩ => rfl
    | ⟨3, _⟩ => rfl

/-- The weight of the second sub-head. -/
theorem lam_at (a3 : FVec Ideal S4x64 .f32) (i : S_.Idx) :
    val_main_v25 (F := Ideal) a3 i
      = Ideal.exp (∑ d : Fin 64, a3 (ix2 0 d) * a3 (ix2 1 d)) - Ideal.exp (∑ d : Fin 64, a3 (ix2 2 d) * a3 (ix2 3 d))
        + Ideal.ofBits .f32 0x3E4CCCCD#32 := by
  rw [show i = fun a => a.elim0 from funext fun a => a.elim0]
  pointwise [val_main_v25, val_main_v24, val_main_v23, val_main_v22, val_main_v21, val_main_v20, val_main_v19, val_main_v18,
    val_main_v17, val_main_v16, val_main_v15, val_main_v14, val_main_v13, val_main_v12, val_main_v11, val_main_v10]
  have z : val_main_cst (F := Ideal) (Shape.Idx.first h_S_) = 0 := Ideal.ofBits_zero .f32
  have z0 : val_main_cst_0 (F := Ideal) (Shape.Idx.first h_S_) = 0 := Ideal.ofBits_zero .f32
  rw [z, z0, zero_add, zero_add]
  rfl

/-- A head's row normalised by the root of its mean square. -/
theorem norm_at (a0 a1 : FVec Ideal S4x8448x1024 .bf16) (a2 : FVec Ideal S4x8448x13824 .bf16) (a3 : FVec Ideal S4x64 .f32)
    (b : Fin 4) (row : Fin 8192) (h : Fin 8) (j : Fin 128) :
    val_main_v60 (F := Ideal) a0 a1 a2 a3 (ix4 b row h j)
      = val_main_v49 (F := Ideal) a0 a1 a2 a3 (ix4 b row h j)
        * Ideal.rsqrt (Ideal.div (∑ j : Fin 128, val_main_v49 (F := Ideal) a0 a1 a2 a3 (ix4 b row h j)
            * val_main_v49 (F := Ideal) a0 a1 a2 a3 (ix4 b row h j)) (Ideal.ofBits .f32 0x43000000#32)
          + Ideal.ofBits .f32 0x358637BD#32) := by
  have z : ∀ q, val_main_cst_6 (F := Ideal) q = 0 := fun q => Ideal.ofBits_zero .f32
  rw [val_main_v60_apply, val_main_v59_apply, val_main_v58_apply, val_main_v57_apply, val_main_v55_apply, val_main_v53_apply,
    val_main_v52_apply, z, zero_add, val_main_v54_apply, val_main_v56_apply]
  have e : ∀ k : Fin 128, val_main_v51 (F := Ideal) a0 a1 a2 a3 (idx_main_v52 (idx_main_v53 (idx_main_v59 (ix4 b row h j))) k)
      = val_main_v49 (F := Ideal) a0 a1 a2 a3 (ix4 b row h k) * val_main_v49 (F := Ideal) a0 a1 a2 a3 (ix4 b row h k) := by
    intro k
    rw [val_main_v51_apply, show idx_main_v52 (idx_main_v53 (idx_main_v59 (ix4 b row h j))) k = ix4 b row h k from
      funext fun a => match a with
      | ⟨0, _⟩ => rfl
      | ⟨1, _⟩ => rfl
      | ⟨2, _⟩ => rfl
      | ⟨3, _⟩ => rfl]
    rfl
  rw [Finset.sum_congr rfl fun k _ => e k]
  rfl

/-- The gate's factor. -/
theorem gate_at (a2 : FVec Ideal S4x8448x13824 .bf16) (b : Fin 4) (row : Fin 8192) (col : Fin 1024) :
    val_main_v67 (F := Ideal) a2 (ix3 b row col)
      = a2 (ix3 b ⟨row.val, by omega⟩ ⟨4096 + col.val, by omega⟩)
        * Ideal.div 1 (1 + Ideal.exp (-(a2 (ix3 b ⟨row.val, by omega⟩ ⟨4096 + col.val, by omega⟩)))) := by
  rw [val_main_v67_apply, val_main_call0_v5_apply, val_main_call0_v3_apply, val_main_call0_v1_apply, val_main_call0_v0_apply,
    val_main_call0_v4_apply, val_main_call0_v2_apply, val_main_v9_apply, val_main_v8_apply]
  have e : idx_main_v8 (ix3 b row col) = ix3 b ⟨row.val, by omega⟩ ⟨4096 + col.val, by omega⟩ := by
    funext a
    refine Fin.ext ?_
    match a with
    | ⟨0, _⟩ => simp [ix3]
    | ⟨1, _⟩ => simp [ix3]
    | ⟨2, _⟩ => simp [ix3]
  have one : ∀ q, val_main_call0_cst (F := Ideal) q = 1 := fun q => by
    exact Ideal.ofBits_one_f32
  have one' : ∀ q, val_main_call0_cst_0 (F := Ideal) q = 1 := one
  rw [e, one, one']
  rfl

/-- The reference's result at an index of a latent row, before padding. -/
theorem out_at (a0 a1 : FVec Ideal S4x8448x1024 .bf16) (a2 : FVec Ideal S4x8448x13824 .bf16) (a3 : FVec Ideal S4x64 .f32)
    (a6 : FVec Ideal S1x128 .f32) (b : Fin 4) (row : Fin 8192) (col : Fin 1024) :
    val_main_v68 (F := Ideal) a0 a1 a2 a3 a6 (ix3 b row col)
      = val_main_v60 (F := Ideal) a0 a1 a2 a3 (ix4 b row ⟨col.val / 128, by omega⟩ ⟨col.val % 128, by omega⟩)
        * a6 (ix2 0 ⟨col.val % 128, by omega⟩) * Ideal.ofBits .f32 0x3F4CCCCD#32 * val_main_v67 (F := Ideal) a2 (ix3 b row col) := by
  rw [val_main_v68_apply, val_main_v66_apply, val_main_v65_apply, val_main_v64_apply, val_main_v63_apply, val_main_v62_apply,
    val_main_v61_apply, val_main_v50_apply]
  have e : idx_main_v66 (ix3 b row col) = ix4 b row ⟨col.val / 128, by omega⟩ ⟨col.val % 128, by omega⟩ := by
    funext a
    refine Fin.ext ?_
    match a with
    | ⟨0, _⟩ => simp [ix3, ix4]; omega
    | ⟨1, _⟩ => simp [ix3, ix4]; omega
    | ⟨2, _⟩ => simp [ix3, ix4]; omega
    | ⟨3, _⟩ => simp [ix3, ix4]; omega
  have e' : idx_main_v50 (idx_main_v61 (idx_main_v62 (idx_main_v66 (ix3 b row col)))) = ix2 0 ⟨col.val % 128, by omega⟩ := by
    rw [e]
    funext a
    refine Fin.ext ?_
    match a with
    | ⟨0, _⟩ => simp [ix2, ix4]
    | ⟨1, _⟩ => simp [ix2, ix4]
  rw [e', e]
  rfl

end Cert.ReferenceIdeal.Read
-- ==== Proof.Attn.Equation.lean ====
/- The two programs' values at an index of a latent row, for finite arguments: the shifted powers of two of the one and the
   exponentials less the row's maximum of the other give the same normalised rows. -/
module

public import proofs.«01_k».proof.Proof.Attn.Array
public import proofs.«01_k».proof.Proof.Attn.Reference
public import proofs.«01_k».proof.Proof.Gen.Pre_finite
public import proofs.«01_k».proof.Proof.Gen.On_latent_rows
public import Idealize.ShloMosaic.Lib.WordCmp

@[expose] public section

set_option maxRecDepth 16384

noncomputable section

namespace Cert.Attention

open Idealize.ShloMosaic Cert.KernelIdeal.AttnValue Cert.ReferenceIdeal.Read
open Cert.KernelIdeal (S4x8448x1024 S4x8448x13824 S4x64 S1x64 S1x128)

/-- Every element of an array is a real. -/
def Finite {ι : Type} (x : ι → EReal) : Prop := ∀ i, ∃ r : ℝ, x i = (r : EReal)

/-- The word of minus infinity. -/
theorem ofBits_neg_inf : Ideal.ofBits .f32 0xFF800000#32 = ⊥ := by
  simp [Ideal.ofBits, Ideal.ieee]

/-- The logarithm of the word of two. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h]
  exact if_neg (by norm_num)

/-- An extended real whose absolute value is below infinity is a real. -/
theorem real_of_lt (x : EReal) (h : max x (-x) < ⊤) : ∃ r : ℝ, x = (r : EReal) := by
  induction x with
  | bot => simp at h
  | top => simp at h
  | coe r => exact ⟨r, rfl⟩

/-- The weight of the second sub-head is a real. -/
theorem lam_real (a3 : FVec Ideal S4x64 .f32) (h3 : Finite a3) :
    ∃ l : ℝ, Cert.KernelIdeal.Gen.k0_pay4 (F := Ideal) a3 (ix2 0 0) = (l : EReal) := by
  choose r hr using h3
  rw [pay4_apply]
  have h : ∃ w : ℝ, Ideal.ofBits .f32 0x3E4CCCCD#32 = (w : EReal) := by
    simp only [Ideal.ofBits, Ideal.ieee]
    simp
    exact ⟨_, (EReal.coe_mul _ _).symm⟩
  obtain ⟨w, hw⟩ := h
  simp only [hr, ← EReal.coe_mul, coe_sum, hw]
  exact ⟨Real.exp (∑ d : Fin 64, r (ix2 0 d) * r (ix2 1 d)) - Real.exp (∑ d : Fin 64, r (ix2 2 d) * r (ix2 3 d)) + w, by
    rw [EReal.coe_add, EReal.coe_sub]; rfl⟩

/-- The maximum of the absolute values of some reals is a real. -/
theorem abs_max_real (x : Fin 64 → EReal) (hx : Finite x) :
    ∃ M : ℝ, Finset.fold max (Ideal.ofBits .f32 0xFF800000#32) (fun d : Fin 64 => max (x d) (-x d)) Finset.univ = (M : EReal) := by
  choose r hr using hx
  rw [ofBits_neg_inf]
  have e : (fun d : Fin 64 => max (x d) (-x d)) = fun d => ((max (r d) (-r d) : ℝ) : EReal) := by
    funext d
    rw [hr, ← EReal.coe_neg]
    exact (EReal.coe_strictMono.monotone.map_max).symm
  rw [e]
  exact fold_max_real _ Finset.univ_nonempty _

/-- The shift is a real. -/
theorem shift_real (a4 a5 : FVec Ideal S1x64 .f32) (h4 : Finite a4) (h5 : Finite a5) :
    ∃ l : ℝ, Cert.KernelIdeal.Gen.k0_pay5 (F := Ideal) a4 a5 (ix2 0 0) = (l : EReal) := by
  obtain ⟨x, hx⟩ := abs_max_real (fun d => a4 (ix2 0 d)) fun d => h4 _
  obtain ⟨y, hy⟩ := abs_max_real (fun d => a5 (ix2 0 d)) fun d => h5 _
  rw [pay5_apply, hx, hy]
  have h : ∃ w : ℝ, Ideal.ofBits .f32 0x4138AA3B#32 = (w : EReal) := by
    simp [Ideal.ofBits, Ideal.ieee]
    exact ⟨_, (EReal.coe_mul _ _).symm⟩
  obtain ⟨w, hw⟩ := h
  exact ⟨x * y * w, by rw [hw, EReal.coe_mul, EReal.coe_mul]⟩

/-- One row of one head is the same in the two programs. -/
theorem row_eq_row (a0 a1 : FVec Ideal S4x8448x1024 .bf16) (a2 : FVec Ideal S4x8448x13824 .bf16) (a3 : FVec Ideal S4x64 .f32)
    (h0 : Finite a0) (h1 : Finite a1) (h2 : Finite a2) (sh lam : ℝ)
    (hlam : val_main_v25 (F := Ideal) a3 (fun a => a.elim0) = (lam : EReal)) (b : Fin 4) (row : Fin 8192) (h : Fin 8)
    (j : Fin 128) :
    diffRow a0 a1 a2 (sh : EReal) (lam : EReal) b h ⟨row.val, by omega⟩ j
      = val_main_v49 (F := Ideal) a0 a1 a2 a3 (ix4 b row h j) := by
  choose r0 hr0 using h0
  choose r1 hr1 using h1
  choose r2 hr2 using h2
  let S : Fin 2 → Fin 8448 → ℝ := fun s k =>
    ∑ d : Fin 64, r0 (ix3 b ⟨row.val, by omega⟩ ⟨h.val * 128 + (64 * s.val + d.val), by omega⟩)
      * r1 (ix3 b k ⟨h.val * 128 + (64 * s.val + d.val), by omega⟩)
  have hS : ∀ s k, val_main_v26 (F := Ideal) a0 a1 (ix5 b h s row k) = (S s k : EReal) := by
    intro s k
    rw [score_at]
    simp only [hr0, hr1, ← EReal.coe_mul, coe_sum]
    rfl
  have hW : ∀ s k, weight a0 a1 (sh : EReal) b h ⟨row.val, by omega⟩ s k = Ideal.exp2 ((S s k : EReal) - (sh : EReal)) := by
    intro s k
    unfold weight
    simp only [hr0, hr1, ← EReal.coe_mul, coe_sum]
    rfl
  have hL : ∀ s k, val_main_v29 (F := Ideal) a0 a1 (ix5 b h s row k) = (S s k : EReal) * ((Real.log 2 : ℝ) : EReal) := by
    intro s k
    rw [scaled_at, hS, log_two]
  have hM : ∀ s, ∃ M : ℝ, val_main_v32 (F := Ideal) a0 a1 (ix4 b h s row) = (M : EReal) := by
    intro s
    obtain ⟨M, hM⟩ := fold_max_real (Finset.univ : Finset (Fin 8448)) Finset.univ_nonempty fun k => S s k * Real.log 2
    refine ⟨M, ?_⟩
    rw [top_at, max_at, ofBits_neg_inf, max_eq_right bot_le, ← hM]
    refine congrArg (fun f => Finset.fold max ⊥ f Finset.univ) (funext fun k => ?_)
    rw [hL, EReal.coe_mul]
  choose M hM using hM
  have hP : ∀ s k, val_main_v40 (F := Ideal) a0 a1 (ix5 b h s row k)
      = Ideal.div (Ideal.exp ((S s k : EReal) * ((Real.log 2 : ℝ) : EReal) - (M s : EReal)))
          (∑ k, Ideal.exp ((S s k : EReal) * ((Real.log 2 : ℝ) : EReal) - (M s : EReal))) := by
    intro s k
    rw [soft_at]
    simp only [exp_at, hL, hM]
  unfold diffRow
  rw [row_at]
  simp only [hW, hr2, diff_at, hP, hlam]
  exact diff_row_eq (by norm_num) (S 0) (S 1) _ sh lam (M 0) (M 1)

/-- The two programs' values at an index of a latent row. -/
theorem value_eq (a0 a1 : FVec Ideal S4x8448x1024 .bf16) (a2 : FVec Ideal S4x8448x13824 .bf16) (a3 : FVec Ideal S4x64 .f32)
    (a4 a5 : FVec Ideal S1x64 .f32) (a6 : FVec Ideal S1x128 .f32) (h0 : Finite a0) (h1 : Finite a1) (h2 : Finite a2)
    (h3 : Finite a3) (h4 : Finite a4) (h5 : Finite a5) (b : Fin 4) (row : Fin 8192) (col : Fin 1024) :
    attn a0 a1 a2 a3 a4 a5 a6 b ⟨row.val, by omega⟩ ⟨col.val / 128, by omega⟩ ⟨col.val % 128, by omega⟩
      = val_main_v70 (F := Ideal) a0 a1 a2 a3 a6 (ix3 b ⟨row.val, by omega⟩ col) := by
  obtain ⟨sh, hsh⟩ := shift_real a4 a5 h4 h5
  obtain ⟨lam, hlam⟩ := lam_real a3 h3
  have hlam' : val_main_v25 (F := Ideal) a3 (fun a => a.elim0) = (lam : EReal) := by
    rw [Cert.ReferenceIdeal.Read.lam_at, ← pay4_apply, hlam]
  rw [pad_at, out_at, gate_at, norm_at]
  unfold attn finish
  rw [hsh, hlam]
  simp only [row_eq_row a0 a1 a2 a3 h0 h1 h2 sh lam hlam']
  have e : (⟨(32 + col.val / 128) * 128 + col.val % 128, by omega⟩ : Fin 13824) = ⟨4096 + col.val, by omega⟩ :=
    Fin.ext (by show (32 + col.val / 128) * 128 + col.val % 128 = 4096 + col.val; omega)
  rw [e]

/-- The bf16 word of infinity. -/
theorem ofBits_inf_bf16 : Ideal.ofBits .bf16 0x7F80#16 = ⊤ := by
  simp [Ideal.ofBits, Ideal.ieee]

/-- The f32 word of infinity. -/
theorem ofBits_inf_f32 : Ideal.ofBits .f32 0x7F800000#32 = ⊤ := by
  simp [Ideal.ofBits, Ideal.ieee]

/-- An absolute value compared below infinity is a real's. -/
theorem real_of_cmp (x t : EReal) (ht : t = ⊤) (h : Ideal.cmp .olt (max x (-x)) t = 1#1) : ∃ r : ℝ, x = (r : EReal) := by
  refine real_of_lt x ?_
  rw [ht] at h
  by_contra hn
  have : Ideal.cmp .olt (max x (-x)) ⊤ = 0#1 := by
    show BitVec.ofBool (decide (max x (-x) < ⊤)) = 0#1
    rw [decide_eq_false hn]
    rfl
  rw [this] at h
  exact absurd h (by decide)

variable [hp : Cert.Pre_finite.Facts] [ho : Cert.On_latent_rows.Facts]

/-- What the precondition says of the arguments: their elements are reals. -/
theorem finite_args (a0 a1 : FVec Ideal S4x8448x1024 .bf16) (a2 : FVec Ideal S4x8448x13824 .bf16) (a3 : FVec Ideal S4x64 .f32)
    (a4 a5 : FVec Ideal S1x64 .f32) (a6 : FVec Ideal S1x128 .f32)
    (h : (Cert.Pre_finite.fn (F := Ideal) a0 a1 a2 a3 a4 a5 a6).1 = (fun _ => 1#1)
      ∧ (Cert.Pre_finite.fn (F := Ideal) a0 a1 a2 a3 a4 a5 a6).2.1 = (fun _ => 1#1)
      ∧ (Cert.Pre_finite.fn (F := Ideal) a0 a1 a2 a3 a4 a5 a6).2.2.1 = (fun _ => 1#1)
      ∧ (Cert.Pre_finite.fn (F := Ideal) a0 a1 a2 a3 a4 a5 a6).2.2.2.1 = (fun _ => 1#1)
      ∧ (Cert.Pre_finite.fn (F := Ideal) a0 a1 a2 a3 a4 a5 a6).2.2.2.2.1 = (fun _ => 1#1)
      ∧ (Cert.Pre_finite.fn (F := Ideal) a0 a1 a2 a3 a4 a5 a6).2.2.2.2.2 = (fun _ => 1#1)) :
    Finite a0 ∧ Finite a1 ∧ Finite a2 ∧ Finite a3 ∧ Finite a4 ∧ Finite a5 :=
  ⟨fun i => real_of_cmp (a0 i) _ ofBits_inf_bf16 (congrFun (h.1) i), fun i => real_of_cmp (a1 i) _ ofBits_inf_bf16 (congrFun (h.2.1) i),
    fun i => real_of_cmp (a2 i) _ ofBits_inf_bf16 (congrFun (h.2.2.1) i), fun i => real_of_cmp (a3 i) _ ofBits_inf_f32 (congrFun (h.2.2.2.1) i),
    fun i => real_of_cmp (a4 i) _ ofBits_inf_f32 (congrFun (h.2.2.2.2.1) i), fun i => real_of_cmp (a5 i) _ ofBits_inf_f32 (congrFun (h.2.2.2.2.2) i)⟩

/-- The indices compared are those of the latent rows. -/
theorem row_lt (a0 a1 : FVec Ideal S4x8448x1024 .bf16) (a2 : FVec Ideal S4x8448x13824 .bf16) (a3 : FVec Ideal S4x64 .f32)
    (a4 a5 : FVec Ideal S1x64 .f32) (a6 : FVec Ideal S1x128 .f32) (i : S4x8448x1024.Idx)
    (h : Cert.On_latent_rows.fn (F := Ideal) a0 a1 a2 a3 a4 a5 a6 i = 1#1) : (i 1).val < 8192 := by
  have hi : (i 1).val < 8448 := (i 1).isLt
  have e : IntOp.cmpi .slt (BitVec.ofNat 32 (i 1).val) (BitVec.ofNat 32 8192) = 1#1 := h
  rw [WordCmp.cmpi_slt_ofNat (by omega) (by norm_num)] at e
  by_contra hn
  rw [decide_eq_false hn] at e
  exact absurd e (by decide)

end Cert.Attention

end
-- ==== Proof.Attn.Claims.lean ====
/- The claims about the attention call: its two frames, the reference's frame, the named constant, and the equality of the
   call's output and the reference's result on the latent rows. -/
module

public import proofs.«01_k».proof.Defs
public import proofs.«01_k».proof.Proof.Attn.Equation
public import proofs.«01_k».proof.Proof.Gen.Kernel.Frame
public import proofs.«01_k».proof.Proof.Gen.ReferenceIdeal.Run
public import Idealize.ShloMosaic.Lib.Quiescent

@[expose] public section

set_option maxRecDepth 16384

noncomputable section

namespace Cert.Attention

open Idealize.ShloMosaic Idealize.SL.Sem

/-- The kernel as printed runs, keeps its arguments and leaves every counter at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- And so it does for finite arguments. -/
theorem frame_pi_finite : Cert.quiescent_KernelIdeal_pre_finite := fun m ρ _ => Cert.KernelIdeal.Gen.frame m ρ

/-- The reference runs, keeps its arguments and leaves every counter at zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- And so it does for finite arguments. -/
theorem frame_ri_finite : Cert.quiescent_ReferenceIdeal_pre_finite := fun m ρ _ => frame_ri m ρ trivial

/-- The named constant is minus the logarithm of `e` to the base two, that is minus the inverse of the logarithm of two. -/
theorem preserves : Cert.preserves_Kernel_KernelIdeal :=
  IdealRules.named_const.statement Cert.KernelIdeal.κ "neg_log2e" .f32 0xBFB8AA3B#32 ((-((Real.log 2)⁻¹) : ℝ) : EReal) rfl

/-- For finite arguments the call's output and the reference's result are equal on the latent rows. -/
theorem algebraic : Cert.algebraic_KernelIdeal_ReferenceIdeal_on_latent_rows_pre_finite := by
  intro m ρ m' ρ' hpre hagree
  refine ⟨fun c => (Cert.KernelIdeal.Gen.dats m 0 c).arrAt 8 Cert.KernelIdeal.cfg0.N, ?_, ?_⟩
  · refine (θ_run Cert.KernelIdeal.defs _ _).mono (fun r h c => ⟨fun i _ => congrFun (h c).1 i, (h c).2⟩)
      (Cert.KernelIdeal.Value.run_blocks (F := Ideal) m ρ)
  · refine (θ_run Cert.ReferenceIdeal.defs _ _).mono (fun r h c => ⟨fun i hi => ?_, (h c).2⟩)
      (Cert.ReferenceIdeal.Value.run (F := Ideal) m' ρ')
    obtain ⟨f0, f1, f2, f3, f4, f5⟩ := finite_args _ _ _ _ _ _ _ (hpre c)
    have hr : (i 1).val < 8192 := row_lt _ _ _ _ _ _ _ i hi
    obtain ⟨e0, e1, e2, e3, e4, e5, e6⟩ := hagree c
    rw [congrFun (h c).1 i, Cert.ReferenceIdeal.Read.val_main_v70_eq, e0, e1, e2, e3, e6]
    refine Eq.trans ?_ (Cert.KernelIdeal.AttnValue.array_at m c i hr).symm
    refine Eq.trans ?_ (value_eq _ _ _ _ _ _ _ f0 f1 f2 f3 f4 f5 (i 0) ⟨(i 1).val, hr⟩ (i 2)).symm
    exact congrArg _ (eq_ix3 i)

end Cert.Attention

end
-- ==== Proof.Merge.Layer.lean ====
/- The merge of the layer's three branches as a function of its arguments, over the extended reals. -/
module

public import Idealize.ShloMosaic.PureOps.Ideal
public import Idealize.ShloMosaic.Lib.Pointwise
public import Idealize.ShloMosaic.Lib.ValueIdx
public import proofs.«01_k».proof.Proof.Attn.Softmax

@[expose] public section

set_option maxRecDepth 16384

noncomputable section

namespace Cert.Merging

open Idealize.ShloMosaic

/-- The sigmoid. -/
def sg (x : EReal) : EReal := Ideal.div (Ideal.ofBits .f32 0x3F800000#32) (Ideal.ofBits .f32 0x3F800000#32 + Ideal.exp (-x))

/-- The sigmoid as the kernel computes it, by a power of two. -/
def sgk (x : EReal) : EReal :=
  Ideal.div (Ideal.ofBits .f32 0x3F800000#32)
    (Ideal.ofBits .f32 0x3F800000#32 + Ideal.exp2 (x * ((-((Real.log 2)⁻¹) : ℝ) : EReal)))

/-- The two are equal. -/
theorem sgk_eq (x : EReal) : sgk x = sg x := by
  unfold sgk sg
  rw [Cert.KernelIdeal.AttnValue.exp2_neg_log2e]

/-- The root mean square norm of a row `a` of `n` entries at its entry `x`, `w` being the word of `n`. -/
def rms {n : ℕ} (w : BitVec 32) (a : Fin n → EReal) (x : EReal) : EReal :=
  x * Ideal.rsqrt (Ideal.div (∑ l, a l * a l) (Ideal.ofBits .f32 w) + Ideal.ofBits .f32 0x358637BD#32)

/-- The shape of the rows of activations. -/
abbrev Act : Shape := ⟨3, ![4, 8448, 1024]⟩
/-- The shape of the projected rows. -/
abbrev Big : Shape := ⟨3, ![4, 8448, 13824]⟩
/-- The shape of a scale. -/
abbrev Scale : Shape := ⟨2, ![1, 1024]⟩

/-- The state space branch before its norm, at one lane: its two directions summed and gated. -/
def ssm (yf yb : Act.Idx → EReal) (p : Big.Idx → EReal) (b : Fin 4) (row : Fin 8448) (l : Fin 1024) : EReal :=
  (yf (ix3 b row l) + yb (ix3 b row l)) * (p (ix3 b row ⟨l.val, by omega⟩) * sg (p (ix3 b row ⟨l.val, by omega⟩)))

/-- The recurrent branch before its norm, at one lane: its two directions summed and gated. -/
def recur (hf hb : Act.Idx → EReal) (p : Big.Idx → EReal) (b : Fin 4) (row : Fin 8448) (l : Fin 1024) : EReal :=
  (hf (ix3 b row l) + hb (ix3 b row l)) * sg (p (ix3 b row ⟨7168 + l.val, by omega⟩))

/-- The state space branch. -/
def branchA (yf yb : Act.Idx → EReal) (p : Big.Idx → EReal) (sng : Scale.Idx → EReal) (b : Fin 4) (row : Fin 8448)
    (k : Fin 1024) : EReal :=
  rms 0x44800000#32 (ssm yf yb p b row) (ssm yf yb p b row k) * sng (ix2 0 k)

/-- The recurrent branch: its norm is over the 256 lanes of a head. -/
def branchC (hf hb : Act.Idx → EReal) (p : Big.Idx → EReal) (mng : Scale.Idx → EReal) (b : Fin 4) (row : Fin 8448)
    (k : Fin 1024) : EReal :=
  rms 0x43800000#32 (fun l : Fin 256 => recur hf hb p b row ⟨256 * (k.val / 256) + l.val, by omega⟩) (recur hf hb p b row k)
    * mng (ix2 0 k) * (p (ix3 b row ⟨8192 + k.val, by omega⟩) * sg (p (ix3 b row ⟨8192 + k.val, by omega⟩)))

/-- The three branches projected and merged by the sigmoid gates. -/
def mixed (yf yb : Act.Idx → EReal) (p : Big.Idx → EReal) (yd hf hb : Act.Idx → EReal) (sng mng : Scale.Idx → EReal)
    (wb : (⟨3, ![3, 1024, 1024]⟩ : Shape).Idx → EReal) (b : Fin 4) (row : Fin 8448) (k : Fin 1024) : EReal :=
  sg (p (ix3 b row ⟨9216 + k.val, by omega⟩)) * (∑ l : Fin 1024, branchA yf yb p sng b row l * wb (ix3 0 l k))
    + sg (p (ix3 b row ⟨9216 + (1024 + k.val), by omega⟩)) * (∑ l : Fin 1024, yd (ix3 b row l) * wb (ix3 1 l k))
    + sg (p (ix3 b row ⟨9216 + (2048 + k.val), by omega⟩)) * (∑ l : Fin 1024, branchC hf hb p mng b row l * wb (ix3 2 l k))

/-- The layer's output: the residual plus the gated output projection. -/
def merged (x : Act.Idx → EReal) (mod : (⟨2, ![8, 3072]⟩ : Shape).Idx → EReal) (yf yb : Act.Idx → EReal) (p : Big.Idx → EReal)
    (yd hf hb : Act.Idx → EReal) (sng mng : Scale.Idx → EReal) (wb : (⟨3, ![3, 1024, 1024]⟩ : Shape).Idx → EReal)
    (wo : (⟨2, ![1024, 1024]⟩ : Shape).Idx → EReal) (b : Fin 4) (row : Fin 8448) (j : Fin 1024) : EReal :=
  x (ix3 b row j) + mod (ix2 ⟨b.val, by omega⟩ ⟨2048 + j.val, by omega⟩)
    * ∑ k : Fin 1024, mixed yf yb p yd hf hb sng mng wb b row k * wo (ix2 k j)

end Cert.Merging

end
-- ==== Proof.InProj.Layer.lean ====
/- The input projection as a function of its arguments, over the extended reals. -/
module

public import proofs.«01_k».proof.Proof.Merge.Layer

@[expose] public section

set_option maxRecDepth 16384

noncomputable section

namespace Cert.Projection

open Idealize.ShloMosaic Cert.Merging

/-- The modulation row of a row of activations: the sample's own for a latent row, the fifth for a context row. -/
abbrev mrow (b : Fin 4) (row : Fin 8448) : Fin 8 := if 8192 ≤ row.val then 4 else ⟨b.val, by omega⟩

/-- A row of activations, normalised, scaled and modulated, at one lane. -/
def hrow (x : Act.Idx → EReal) (mod : (⟨2, ![8, 3072]⟩ : Shape).Idx → EReal) (g : Scale.Idx → EReal) (b : Fin 4)
    (row : Fin 8448) (k : Fin 1024) : EReal :=
  rms 0x44800000#32 (fun l : Fin 1024 => x (ix3 b row l)) (x (ix3 b row k)) * g (ix2 0 k)
      * (Ideal.ofBits .f32 0x3F800000#32 + mod (ix2 (mrow b row) ⟨1024 + k.val, by omega⟩))
    + mod (ix2 (mrow b row) ⟨k.val, by omega⟩)

/-- Its product with a matrix of `n` columns. -/
def proj {n : ℕ} (x : Act.Idx → EReal) (mod : (⟨2, ![8, 3072]⟩ : Shape).Idx → EReal) (g : Scale.Idx → EReal)
    (w : (⟨2, ![1024, n]⟩ : Shape).Idx → EReal) (b : Fin 4) (row : Fin 8448) (j : Fin n) : EReal :=
  ∑ k : Fin 1024, hrow x mod g b row k * w (ix2 k j)

end Cert.Projection

end
-- ==== Proof.InProj.Payloads.lean ====
/- The values the input projection's body computes, read at one index over the extended reals. -/
module

public import proofs.«01_k».proof.Proof.Gen.InProjIdeal.Skeleton
public import proofs.«01_k».proof.Proof.InProj.Layer
public import Idealize.ShloMosaic.Lib.Pointwise
public import Idealize.ShloMosaic.Lib.ValueIdx
public import Idealize.ShloMosaic.Lib.WordCmp

@[expose] public section

set_option maxRecDepth 16384

noncomputable section

namespace Cert.Projection

open Cert.InProjIdeal Cert.InProjIdeal.Gen Cert.Merging Idealize.ShloMosaic

/-- The normalised rows as kept in the scratch. -/
theorem pay2_apply (h : FVec Ideal S1056x1024 .f32) (r : Fin 1056) (k : Fin 1024) :
    k0_pay2 (F := Ideal) h (ix2 r k) = h (ix2 r k) := by
  pointwise [k0_pay2, k0_pay1]

/-- The second result's block: the normalised rows times the narrow matrix. -/
theorem pay3_apply (h : FVec Ideal S1056x1024 .f32) (w : Vec Ideal S1024x128 .bf16) (r : Fin 1056) (j : Fin 128) :
    k0_pay3 (F := Ideal) h w (ix3 0 r j) = ∑ k : Fin 1024, h (ix2 r k) * w (ix2 k j) := by
  pointwise [k0_pay3, k0_pay1]

/-- The first result's block: the kept rows times a column block of the wide matrix. -/
theorem pay4_apply (h : Vec Ideal S1056x1024 .bf16) (w : Vec Ideal S1024x3456 .bf16) (r : Fin 1056) (j : Fin 3456) :
    k0_pay4 (F := Ideal) h w (ix3 0 r j) = ∑ k : Fin 1024, h (ix2 r k) * w (ix2 k j) := by
  pointwise [k0_pay4]

/-- The comparison that tells a context row of row tile `i`. -/
theorem is_context (i r : ℕ) (hi : i < 8) (hr : r < 1056) :
    IntOp.cmpi CmpIPredicate.sge (IntOp.addi (Scalar.muli (BitVec.ofNat 32 i) 1056#32) (BitVec.ofNat 32 r)) 8192#32
      = if 8192 ≤ i * 1056 + r then 1#1 else 0#1 := by
  have e : IntOp.addi (Scalar.muli (BitVec.ofNat 32 i) 1056#32) (BitVec.ofNat 32 r) = BitVec.ofNat 32 (i * 1056 + r) := by
    show BitVec.ofNat 32 i * BitVec.ofNat 32 1056 + BitVec.ofNat 32 r = _
    rw [← BitVec.ofNat_mul, ← BitVec.ofNat_add]
  rw [e, WordCmp.cmpi_sge_ofNat (by omega) (by omega)]
  by_cases h : 8192 ≤ i * 1056 + r
  · rw [if_pos h, decide_eq_true h]; rfl
  · rw [if_neg h, decide_eq_false h]; rfl

/-- The rows of row tile `i` normalised, scaled and modulated: by `v` for a context row, by `u` for a latent one. -/
theorem pay5_apply (i : ℕ) (hi : i < 8) (x : Vec Ideal S1x1056x1024 .f32) (g : Vec Ideal S1x1024 .f32)
    (u v : Vec Ideal S1x3072 .f32) (r : Fin 1056) (k : Fin 1024) :
    k0_pay5 (F := Ideal) (BitVec.ofNat 32 i) x g u v (ix2 r k)
      = rms 0x44800000#32 (fun l : Fin 1024 => x (ix3 0 r l)) (x (ix3 0 r k)) * g (ix2 0 k)
          * (Ideal.ofBits .f32 0x3F800000#32
            + (if 8192 ≤ i * 1056 + r.val then v else u) (ix2 0 ⟨1024 + k.val, by omega⟩))
        + (if 8192 ≤ i * 1056 + r.val then v else u) (ix2 0 ⟨k.val, by omega⟩) := by
  unfold rms
  pointwise [k0_pay5]
  rw [is_context i r.val hi r.isLt]
  by_cases h : 8192 ≤ i * 1056 + r.val
  · simp only [if_pos h]; rfl
  · simp only [if_neg h]; rfl

end Cert.Projection

end
-- ==== Proof.InProj.Runs.lean ====
/- What the two runs of the input projection's body share: what the arrays hold when the launch is entered, the blocks
   its windows read, when the body computes its normalised rows (at the first of a row tile's four column blocks), and the
   buffers the body is handed at each grid point. -/
module

public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Projection

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- What each buffer of core `c` holds when the region is entered: what it held at the start. -/
abbrev V (c : Dev nD) (b : Ref sig .tc) : Buf (Elt F) ((c : Thread nD τ).loc b) := m ((c : Thread nD τ).loc b)

set_option maxHeartbeats 800000 in
/-- Before its region @main does nothing else. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body finds input window 0's block in its buffer at every point, for any proof data whose array is the region's (`hA`)
    and whose body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The body finds input window 1's block in its buffer at every point, for any proof data whose array is the region's (`hA`)
    and whose body leaves the block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The body finds input window 2's block in its buffer at every point, for any proof data whose array is the region's (`hA`)
    and whose body leaves the block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The body finds input window 3's block in its buffer at every point, for any proof data whose array is the region's (`hA`)
    and whose body leaves the block in place (`hafter`). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The body finds input window 4's block in its buffer at every point, for any proof data whose array is the region's (`hA`)
    and whose body leaves the block in place (`hafter`). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments end unchanged, from a run whose proof data start from the region's arrays: a staged input is never written back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c)))⟩) h

/-! ## The body's branch conditions -/

/-- The condition of the body's branch, from the grid coordinates. -/
abbrev cond0_0 (i : grid0.Coords) : Prop := k0_cond1 i = 1#1
/-- It holds at the points divisible by four. -/
theorem hcond0_0 : ∀ t : Fin cfg0.N, cond0_0 (grid0.coords t) ↔ t.val % 4 = 0 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 4 % 8 := Pipeline.Grid.coords_val t 1 (by decide) rfl
    have e2 : (grid0.coords t 2).val = t.val / 1 % 4 := Pipeline.Grid.coords_val t 2 (by decide) rfl
    simp only [cond0_0, k0_cond1, e0, e1, e2]
    word_cmp
   : ∀ t : Fin grid0.N, cond0_0 (grid0.coords t) ↔ t.val % 4 = 0)

/-! ## Where the windows are idle -/

/-- Input window 0 is live at every point. -/
theorem liveAt0_0 : ∀ t : Fin cfg0.N, cfg0.idle 0 (grid0.coords t) = false := fun _ => rfl
/-- Input window 1 is live at every point. -/
theorem liveAt0_1 : ∀ t : Fin cfg0.N, cfg0.idle 1 (grid0.coords t) = false := fun _ => rfl
/-- Input window 2 is live at every point. -/
theorem liveAt0_2 : ∀ t : Fin cfg0.N, cfg0.idle 2 (grid0.coords t) = false := fun _ => rfl
/-- Input window 3 is live at every point. -/
theorem liveAt0_3 : ∀ t : Fin cfg0.N, cfg0.idle 3 (grid0.coords t) = false := fun _ => rfl
/-- Input window 4 is live at every point. -/
theorem liveAt0_4 : ∀ t : Fin cfg0.N, cfg0.idle 4 (grid0.coords t) = false := fun _ => rfl
/-- Output window 5 is stored at every point. -/
theorem liveAt0_5 : ∀ t : Fin cfg0.N, cfg0.idle 5 (grid0.coords t) = false := fun _ => rfl
/-- Whether the second result's buffer holds nothing the body stored since its last write-back, at each position from 1 on, as a
    bitmask: bit `n` for position `n + 1`. Position 0 counts as such. -/
def freshTab0_6 : ℕ → Bool
  | 0 => true
  | n + 1 => (0x88888888888888888888888888888888 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- Where the body computes the normalised rows it stores the second result, so window 6 is live. -/
theorem liveAt0_6_A : ∀ t : Fin cfg0.N, cond0_0 (grid0.coords t) → cfg0.idle 6 (grid0.coords t) = false := by decide +kernel
/-- At the other three column blocks the body leaves the second result's buffer alone. -/
theorem idleAt0_6_B : ∀ t : Fin cfg0.N, ¬cond0_0 (grid0.coords t) → cfg0.idle 6 (grid0.coords t) = true := by decide +kernel
/-- There the buffer still holds what the tile's first column block stored: it was not written back since. -/
theorem notFresh0_6_B : ∀ t : Fin cfg0.N, ¬cond0_0 (grid0.coords t) → cfg0.fresh 6 t.val = false := by
  intro t; rw [fresh0_6_eq t]; revert t; decide +kernel

/-! ## The buffers the body is handed -/

/-- One staging buffer of output window 5, through which its contents are stated (the choice does not matter). -/
abbrev VO0_5 : View sig .tc .vmem S1x1056x3456 .bf16 := (Memref.whole cc0_stg5_0 : Memref sig .tc .vmem S1x1056x3456 .bf16).view
/-- One staging buffer of output window 6, through which its contents are stated (the choice does not matter). -/
abbrev VO0_6 : View sig .tc .vmem S1x1056x128 .f32 := (Memref.whole cc0_stg6_0 : Memref sig .tc .vmem S1x1056x128 .f32).view
/-- Each window's current staging memref at point `t`, spelled as the pipeline passes it (`bodyAt0`), and its wholeness. -/
abbrev ms0_0 (t : Fin cfg0.N) : Memref sig .tc .vmem S1x1056x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x3456 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1056x3456 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1056x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1056x1024 .bf16 := Memref.whole cc0_scratch0
/-- The scratch `arg10` the kernel carries between points, as a view: what it holds is stated through it. -/
abbrev VS0_0 : View sig .tc .vmem S1056x1024 .bf16 := scM0_0.view

/-- The invariant with the scratch as a buffer owned at some contents: what the body is handed and gives back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Projection

end
-- ==== Proof.InProj.RunA.lean ====
/- The body's run at the first of a row tile's column blocks: it normalises the tile's rows, keeps them in the scratch, and
   stores both products. -/
module

public import proofs.«01_k».proof.Proof.InProj.Runs

@[expose] public section

set_option maxRecDepth 16384

noncomputable section

namespace Cert.Projection

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the two outputs' buffers and in the scratch, as pieces (last first), at the first column block
    of a row tile, with the proof that from the inputs' buffers at their contents and the others at anything the body runs to the
    same with these pieces written. -/
noncomputable def kernelRun0_A (c : Dev nD) (i : grid0.Coords) (arg3 : Memref sig .tc .vmem S1x1056x1024 .f32) (harg3 : arg3.IsWhole) (arg4 : Memref sig .tc .vmem S8x3072 .f32) (harg4 : arg4.IsWhole) (arg5 : Memref sig .tc .vmem S1x1024 .f32) (harg5 : arg5.IsWhole) (arg6 : Memref sig .tc .vmem S1024x3456 .bf16) (harg6 : arg6.IsWhole) (arg7 : Memref sig .tc .vmem S1024x128 .bf16) (harg7 : arg7.IsWhole) (arg8 : Memref sig .tc .vmem S1x1056x3456 .bf16) (harg8 : arg8.IsWhole) (arg9 : Memref sig .tc .vmem S1x1056x128 .f32) (harg9 : arg9.IsWhole) (arg10 : Memref sig .tc .vmem S1056x1024 .bf16) (harg10 : arg10.IsWhole) (hc0 : cond0_0 i)
    (x0 : Vec F S1x1056x1024 .f32) (x1 : Vec F S8x3072 .f32) (x2 : Vec F S1x1024 .f32) (x3 : Vec F S1024x3456 .bf16) (x4 : Vec F S1024x128 .bf16) :
    Σ' (L5 : List (View.Piece (Elt F) S1x1056x3456 .bf16)), Σ' (L6 : List (View.Piece (Elt F) S1x1056x128 .f32)), { LS0 : List (View.Piece (Elt F) S1056x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0_inproj i arg3 harg3 arg4 harg4 arg5 harg5 arg6 harg6 arg7 harg7 arg8 harg8 arg9 harg9 arg10 harg10) K } := by
  refine ⟨?_, ?_, ?_, fun E K => ?run⟩
  case run =>
    simp only [cc0_inproj_eq_skeleton]; unfold cc0_inproj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.Projection

end
-- ==== Proof.InProj.RunB.lean ====
/- The body's run at the other column blocks: it multiplies the kept rows by the next column block, and leaves the scratch
   and the second result's buffer as they were. -/
module

public import proofs.«01_k».proof.Proof.InProj.RunA

@[expose] public section

set_option maxRecDepth 16384

noncomputable section

namespace Cert.Projection

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's store leaves in the first result's buffer, as pieces, at the points that are not a row tile's first
    (1, 2, 3, 5, … 127), with the proof that from the inputs' buffers and the scratch at their contents and the first result's
    at anything, the body runs to the same with the pieces written. The second result's buffer is not touched, so it does not
    appear. -/
noncomputable def kernelRun0_B (c : Dev nD) (i : grid0.Coords) (arg3 : Memref sig .tc .vmem S1x1056x1024 .f32) (harg3 : arg3.IsWhole) (arg4 : Memref sig .tc .vmem S8x3072 .f32) (harg4 : arg4.IsWhole) (arg5 : Memref sig .tc .vmem S1x1024 .f32) (harg5 : arg5.IsWhole) (arg6 : Memref sig .tc .vmem S1024x3456 .bf16) (harg6 : arg6.IsWhole) (arg7 : Memref sig .tc .vmem S1024x128 .bf16) (harg7 : arg7.IsWhole) (arg8 : Memref sig .tc .vmem S1x1056x3456 .bf16) (harg8 : arg8.IsWhole) (arg9 : Memref sig .tc .vmem S1x1056x128 .f32) (harg9 : arg9.IsWhole) (arg10 : Memref sig .tc .vmem S1056x1024 .bf16) (harg10 : arg10.IsWhole) (hc0 : ¬cond0_0 i)
    (x0 : Vec F S1x1056x1024 .f32) (x1 : Vec F S8x3072 .f32) (x2 : Vec F S1x1024 .f32) (x3 : Vec F S1024x3456 .bf16) (x4 : Vec F S1024x128 .bf16) (xs0 : Vec F S1056x1024 .bf16) :
    { L5 : List (View.Piece (Elt F) S1x1056x3456 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg10 fullShare xs0) -∗ K ⟨⟩))
          ⊢ wp frame (wpE (defs₀ (F := F)) Variants.none c none) E (cc0_inproj i arg3 harg3 arg4 harg4 arg5 harg5 arg6 harg6 arg7 harg7 arg8 harg8 arg9 harg9 arg10 harg10) K } := by
  refine ⟨?_, fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; isplitr; · ipureintro; exact harg10.read_unread _
    iexact HS0

end Cert.Projection

end
-- ==== Proof.InProj.Frame.lean ====
/- The input projection's launch: what its body leaves at each grid point, that it meets what the pipeline asks of it, and the
   run that follows — every fair execution ends with the arguments as they were. At a row tile's later column blocks the second
   result's buffer is left alone, and carries what the first one stored until it is written back. -/
module

public import proofs.«01_k».proof.Proof.InProj.RunB
public import Idealize.ShloMosaic.Lib.Claim

@[expose] public section

set_option maxRecDepth 16384

noncomputable section

namespace Cert.Projection

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 cover its block: one store of the whole. -/
theorem cover0_A_5 (c : Dev nD) (i : grid0.Coords) (arg3 : Memref sig .tc .vmem S1x1056x1024 .f32) (harg3 : arg3.IsWhole) (arg4 : Memref sig .tc .vmem S8x3072 .f32) (harg4 : arg4.IsWhole) (arg5 : Memref sig .tc .vmem S1x1024 .f32) (harg5 : arg5.IsWhole) (arg6 : Memref sig .tc .vmem S1024x3456 .bf16) (harg6 : arg6.IsWhole) (arg7 : Memref sig .tc .vmem S1024x128 .bf16) (harg7 : arg7.IsWhole) (arg8 : Memref sig .tc .vmem S1x1056x3456 .bf16) (harg8 : arg8.IsWhole) (arg9 : Memref sig .tc .vmem S1x1056x128 .f32) (harg9 : arg9.IsWhole) (arg10 : Memref sig .tc .vmem S1056x1024 .bf16) (harg10 : arg10.IsWhole) (hc0 : cond0_0 i)
    (x0 : Vec F S1x1056x1024 .f32) (x1 : Vec F S8x3072 .f32) (x2 : Vec F S1x1024 .f32) (x3 : Vec F S1024x3456 .bf16) (x4 : Vec F S1024x128 .bf16) (y : S1x1056x3456.Idx) :
    ∃ pc ∈ (kernelRun0_A c i arg3 harg3 arg4 harg4 arg5 harg5 arg6 harg6 arg7 harg7 arg8 harg8 arg9 harg9 arg10 harg10 hc0 x0 x1 x2 x3 x4).1, y ∈ pc.1.set :=
  View.cover_of_tiledL (kernelRun0_A c i arg3 harg3 arg4 harg4 arg5 harg5 arg6 harg6 arg7 harg7 arg8 harg8 arg9 harg9 arg10 harg10 hc0 x0 x1 x2 x3 x4).1 S1x1056x3456.size (by sl_kernel_rfl) y

/-- What case A leaves in output 5's staging buffer: its pieces read back over junk. -/
def out0_A_5 (c : Dev nD) (i : grid0.Coords) (arg3 : Memref sig .tc .vmem S1x1056x1024 .f32) (harg3 : arg3.IsWhole) (arg4 : Memref sig .tc .vmem S8x3072 .f32) (harg4 : arg4.IsWhole) (arg5 : Memref sig .tc .vmem S1x1024 .f32) (harg5 : arg5.IsWhole) (arg6 : Memref sig .tc .vmem S1024x3456 .bf16) (harg6 : arg6.IsWhole) (arg7 : Memref sig .tc .vmem S1024x128 .bf16) (harg7 : arg7.IsWhole) (arg8 : Memref sig .tc .vmem S1x1056x3456 .bf16) (harg8 : arg8.IsWhole) (arg9 : Memref sig .tc .vmem S1x1056x128 .f32) (harg9 : arg9.IsWhole) (arg10 : Memref sig .tc .vmem S1056x1024 .bf16) (harg10 : arg10.IsWhole) (hc0 : cond0_0 i)
    (x0 : Vec F S1x1056x1024 .f32) (x1 : Vec F S8x3072 .f32) (x2 : Vec F S1x1024 .f32) (x3 : Vec F S1024x3456 .bf16) (x4 : Vec F S1024x128 .bf16) : Vec F S1x1056x3456 .bf16 :=
  VO0_5.read (Elt F) (VO0_5.writes (Elt F) VO0_5.junk (kernelRun0_A c i arg3 harg3 arg4 harg4 arg5 harg5 arg6 harg6 arg7 harg7 arg8 harg8 arg9 harg9 arg10 harg10 hc0 x0 x1 x2 x3 x4).1)

/-- Case A's pieces for output 6 cover its block: one store of the whole. -/
theorem cover0_A_6 (c : Dev nD) (i : grid0.Coords) (arg3 : Memref sig .tc .vmem S1x1056x1024 .f32) (harg3 : arg3.IsWhole) (arg4 : Memref sig .tc .vmem S8x3072 .f32) (harg4 : arg4.IsWhole) (arg5 : Memref sig .tc .vmem S1x1024 .f32) (harg5 : arg5.IsWhole) (arg6 : Memref sig .tc .vmem S1024x3456 .bf16) (harg6 : arg6.IsWhole) (arg7 : Memref sig .tc .vmem S1024x128 .bf16) (harg7 : arg7.IsWhole) (arg8 : Memref sig .tc .vmem S1x1056x3456 .bf16) (harg8 : arg8.IsWhole) (arg9 : Memref sig .tc .vmem S1x1056x128 .f32) (harg9 : arg9.IsWhole) (arg10 : Memref sig .tc .vmem S1056x1024 .bf16) (harg10 : arg10.IsWhole) (hc0 : cond0_0 i)
    (x0 : Vec F S1x1056x1024 .f32) (x1 : Vec F S8x3072 .f32) (x2 : Vec F S1x1024 .f32) (x3 : Vec F S1024x3456 .bf16) (x4 : Vec F S1024x128 .bf16) (y : S1x1056x128.Idx) :
    ∃ pc ∈ (kernelRun0_A c i arg3 harg3 arg4 harg4 arg5 harg5 arg6 harg6 arg7 harg7 arg8 harg8 arg9 harg9 arg10 harg10 hc0 x0 x1 x2 x3 x4).2.1, y ∈ pc.1.set :=
  View.cover_of_tiledL (kernelRun0_A c i arg3 harg3 arg4 harg4 arg5 harg5 arg6 harg6 arg7 harg7 arg8 harg8 arg9 harg9 arg10 harg10 hc0 x0 x1 x2 x3 x4).2.1 S1x1056x128.size (by sl_kernel_rfl) y

/-- What case A leaves in output 6's staging buffer: its pieces read back over junk. -/
def out0_A_6 (c : Dev nD) (i : grid0.Coords) (arg3 : Memref sig .tc .vmem S1x1056x1024 .f32) (harg3 : arg3.IsWhole) (arg4 : Memref sig .tc .vmem S8x3072 .f32) (harg4 : arg4.IsWhole) (arg5 : Memref sig .tc .vmem S1x1024 .f32) (harg5 : arg5.IsWhole) (arg6 : Memref sig .tc .vmem S1024x3456 .bf16) (harg6 : arg6.IsWhole) (arg7 : Memref sig .tc .vmem S1024x128 .bf16) (harg7 : arg7.IsWhole) (arg8 : Memref sig .tc .vmem S1x1056x3456 .bf16) (harg8 : arg8.IsWhole) (arg9 : Memref sig .tc .vmem S1x1056x128 .f32) (harg9 : arg9.IsWhole) (arg10 : Memref sig .tc .vmem S1056x1024 .bf16) (harg10 : arg10.IsWhole) (hc0 : cond0_0 i)
    (x0 : Vec F S1x1056x1024 .f32) (x1 : Vec F S8x3072 .f32) (x2 : Vec F S1x1024 .f32) (x3 : Vec F S1024x3456 .bf16) (x4 : Vec F S1024x128 .bf16) : Vec F S1x1056x128 .f32 :=
  VO0_6.read (Elt F) (VO0_6.writes (Elt F) VO0_6.junk (kernelRun0_A c i arg3 harg3 arg4 harg4 arg5 harg5 arg6 harg6 arg7 harg7 arg8 harg8 arg9 harg9 arg10 harg10 hc0 x0 x1 x2 x3 x4).2.1)

/-- Case A's pieces for the scratch cover it: one store of the whole. -/
theorem scover0_A_0 (c : Dev nD) (i : grid0.Coords) (arg3 : Memref sig .tc .vmem S1x1056x1024 .f32) (harg3 : arg3.IsWhole) (arg4 : Memref sig .tc .vmem S8x3072 .f32) (harg4 : arg4.IsWhole) (arg5 : Memref sig .tc .vmem S1x1024 .f32) (harg5 : arg5.IsWhole) (arg6 : Memref sig .tc .vmem S1024x3456 .bf16) (harg6 : arg6.IsWhole) (arg7 : Memref sig .tc .vmem S1024x128 .bf16) (harg7 : arg7.IsWhole) (arg8 : Memref sig .tc .vmem S1x1056x3456 .bf16) (harg8 : arg8.IsWhole) (arg9 : Memref sig .tc .vmem S1x1056x128 .f32) (harg9 : arg9.IsWhole) (arg10 : Memref sig .tc .vmem S1056x1024 .bf16) (harg10 : arg10.IsWhole) (hc0 : cond0_0 i)
    (x0 : Vec F S1x1056x1024 .f32) (x1 : Vec F S8x3072 .f32) (x2 : Vec F S1x1024 .f32) (x3 : Vec F S1024x3456 .bf16) (x4 : Vec F S1024x128 .bf16) (y : S1056x1024.Idx) :
    ∃ pc ∈ (kernelRun0_A c i arg3 harg3 arg4 harg4 arg5 harg5 arg6 harg6 arg7 harg7 arg8 harg8 arg9 harg9 arg10 harg10 hc0 x0 x1 x2 x3 x4).2.2.1, y ∈ pc.1.set :=
  View.cover_of_tiledL (kernelRun0_A c i arg3 harg3 arg4 harg4 arg5 harg5 arg6 harg6 arg7 harg7 arg8 harg8 arg9 harg9 arg10 harg10 hc0 x0 x1 x2 x3 x4).2.2.1 S1056x1024.size (by sl_kernel_rfl) y

/-- What case A leaves in scratch `arg10`: its pieces read back over junk. -/
def sout0_A_0 (c : Dev nD) (i : grid0.Coords) (arg3 : Memref sig .tc .vmem S1x1056x1024 .f32) (harg3 : arg3.IsWhole) (arg4 : Memref sig .tc .vmem S8x3072 .f32) (harg4 : arg4.IsWhole) (arg5 : Memref sig .tc .vmem S1x1024 .f32) (harg5 : arg5.IsWhole) (arg6 : Memref sig .tc .vmem S1024x3456 .bf16) (harg6 : arg6.IsWhole) (arg7 : Memref sig .tc .vmem S1024x128 .bf16) (harg7 : arg7.IsWhole) (arg8 : Memref sig .tc .vmem S1x1056x3456 .bf16) (harg8 : arg8.IsWhole) (arg9 : Memref sig .tc .vmem S1x1056x128 .f32) (harg9 : arg9.IsWhole) (arg10 : Memref sig .tc .vmem S1056x1024 .bf16) (harg10 : arg10.IsWhole) (hc0 : cond0_0 i)
    (x0 : Vec F S1x1056x1024 .f32) (x1 : Vec F S8x3072 .f32) (x2 : Vec F S1x1024 .f32) (x3 : Vec F S1024x3456 .bf16) (x4 : Vec F S1024x128 .bf16) : Vec F S1056x1024 .bf16 :=
  VS0_0.read (Elt F) (VS0_0.writes (Elt F) VS0_0.junk (kernelRun0_A c i arg3 harg3 arg4 harg4 arg5 harg5 arg6 harg6 arg7 harg7 arg8 harg8 arg9 harg9 arg10 harg10 hc0 x0 x1 x2 x3 x4).2.2.1)

/-- Case B's pieces for output 5 cover its block: one store of the whole. -/
theorem cover0_B_5 (c : Dev nD) (i : grid0.Coords) (arg3 : Memref sig .tc .vmem S1x1056x1024 .f32) (harg3 : arg3.IsWhole) (arg4 : Memref sig .tc .vmem S8x3072 .f32) (harg4 : arg4.IsWhole) (arg5 : Memref sig .tc .vmem S1x1024 .f32) (harg5 : arg5.IsWhole) (arg6 : Memref sig .tc .vmem S1024x3456 .bf16) (harg6 : arg6.IsWhole) (arg7 : Memref sig .tc .vmem S1024x128 .bf16) (harg7 : arg7.IsWhole) (arg8 : Memref sig .tc .vmem S1x1056x3456 .bf16) (harg8 : arg8.IsWhole) (arg9 : Memref sig .tc .vmem S1x1056x128 .f32) (harg9 : arg9.IsWhole) (arg10 : Memref sig .tc .vmem S1056x1024 .bf16) (harg10 : arg10.IsWhole) (hc0 : ¬cond0_0 i)
    (x0 : Vec F S1x1056x1024 .f32) (x1 : Vec F S8x3072 .f32) (x2 : Vec F S1x1024 .f32) (x3 : Vec F S1024x3456 .bf16) (x4 : Vec F S1024x128 .bf16) (xs0 : Vec F S1056x1024 .bf16) (y : S1x1056x3456.Idx) :
    ∃ pc ∈ (kernelRun0_B c i arg3 harg3 arg4 harg4 arg5 harg5 arg6 harg6 arg7 harg7 arg8 harg8 arg9 harg9 arg10 harg10 hc0 x0 x1 x2 x3 x4 xs0).1, y ∈ pc.1.set :=
  View.cover_of_tiledL (kernelRun0_B c i arg3 harg3 arg4 harg4 arg5 harg5 arg6 harg6 arg7 harg7 arg8 harg8 arg9 harg9 arg10 harg10 hc0 x0 x1 x2 x3 x4 xs0).1 S1x1056x3456.size (by sl_kernel_rfl) y

/-- What case B leaves in output 5's staging buffer: its pieces read back over junk. -/
def out0_B_5 (c : Dev nD) (i : grid0.Coords) (arg3 : Memref sig .tc .vmem S1x1056x1024 .f32) (harg3 : arg3.IsWhole) (arg4 : Memref sig .tc .vmem S8x3072 .f32) (harg4 : arg4.IsWhole) (arg5 : Memref sig .tc .vmem S1x1024 .f32) (harg5 : arg5.IsWhole) (arg6 : Memref sig .tc .vmem S1024x3456 .bf16) (harg6 : arg6.IsWhole) (arg7 : Memref sig .tc .vmem S1024x128 .bf16) (harg7 : arg7.IsWhole) (arg8 : Memref sig .tc .vmem S1x1056x3456 .bf16) (harg8 : arg8.IsWhole) (arg9 : Memref sig .tc .vmem S1x1056x128 .f32) (harg9 : arg9.IsWhole) (arg10 : Memref sig .tc .vmem S1056x1024 .bf16) (harg10 : arg10.IsWhole) (hc0 : ¬cond0_0 i)
    (x0 : Vec F S1x1056x1024 .f32) (x1 : Vec F S8x3072 .f32) (x2 : Vec F S1x1024 .f32) (x3 : Vec F S1024x3456 .bf16) (x4 : Vec F S1024x128 .bf16) (xs0 : Vec F S1056x1024 .bf16) : Vec F S1x1056x3456 .bf16 :=
  VO0_5.read (Elt F) (VO0_5.writes (Elt F) VO0_5.junk (kernelRun0_B c i arg3 harg3 arg4 harg4 arg5 harg5 arg6 harg6 arg7 harg7 arg8 harg8 arg9 harg9 arg10 harg10 hc0 x0 x1 x2 x3 x4 xs0).1)

/-! ## What the outputs hold after each point -/

/-- What the two outputs' buffers and the scratch hold after the body at position `n`. At a row tile's first column block it is
    what case A stores. At the others the first output is case B's product of the scratch that position `n - 1` left, and the
    second output's buffer and the scratch are what it left. -/
def outsAt0 (c : Dev nD) : (n : ℕ) → n < cfg0.N → Vec F S1x1056x3456 .bf16 × Vec F S1x1056x128 .f32 × Vec F S1056x1024 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, (outsAt0 c n (Nat.lt_of_succ_lt hn)).2.1, (outsAt0 c n (Nat.lt_of_succ_lt hn)).2.2)

/-- `outsAt0` at a point of case A: that case's contents. -/
theorem outsAt0_A (c : Dev nD) (t : Fin cfg0.N) (h0 : t.val % 4 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2, (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before position `n`: before the first point every scratch at anything; afterwards the scratch at what the point
    before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data on core `c`: the arrays as the region finds them; after the body at point `t` each input's buffer at its block
    and the outputs' at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are those the region finds. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Where the body leaves the second result's buffer alone, what it holds after the point is what the point before left. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 128 := lt_of_lt_of_eq t.isLt (show cfg0.N = 128 from N_0)
  rw [after0_6, after0_6]
  by_cases h0 : t.val % 4 = 0
  · rw [liveAt0_6_A t ((hcond0_0 t).mpr h0)] at hi
    exact absurd hi Bool.false_ne_true
  · rw [outsAt0_B m c t h0]
/-- So at a later column block the body finds there what the point before left. -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.1 := by
  rw [Dat.before_out_traj _ 6 rfl (fun _ _ => rfl) (hcarry0_6 m c) t.val t rfl d,
    if_neg (by rw [notFresh0_6_B t (fun h => h0 ((hcond0_0 t).mp h))]; exact Bool.false_ne_true)]
  dsimp only [dats]

/-- What a row tile's later column blocks owe of the second result's buffer is that it still holds what the point before left:
    at the tile's last block because it is written back there, at the others because it is handed on. -/
theorem leaves0_6_B (c : Dev nD) (t : Fin cfg0.N) (h0 : ¬t.val % 4 = 0) :
    owns (c : Thread nD τ) (ms0_6 t) fullShare (outsAt0 m c (t.val - 1) (Nat.lt_of_le_of_lt (Nat.sub_le _ _) t.isLt)).2.1
      ⊢ ((dats m 0 c).leavesExact 6 t : sProp 𝕄) := by
  have hi := idleAt0_6_B t (fun h => h0 ((hcond0_0 t).mp h))
  cases hf : (cfg0.win 6).flush t
  · rw [Dat.leavesExact_idle _ 6 t hi hf]
    iintro H
    iexists default
    rw [before0_6_B m c t h0]
    iexact H
  · have e : (dats m 0 c).leavesExact 6 t = owns (c : Thread nD τ) (ms0_6 t) fullShare ((dats m 0 c).after 6 t) := by
      unfold Dat.leavesExact; rw [hi, hf]
    rw [e, after0_6, outsAt0_B m c t h0]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
/-- The body at any point: the inputs' buffers hold their blocks and the scratch what the point before left; the point is a row
    tile's first column block or a later one, and the run of that case applies. At a later one the second result's buffer goes
    by untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 4 = 0
  · · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_A t ((hcond0_0 t).mpr h0)], after0_6]
      by_cases hz : t.val = 0
      · rw [PhiS_castSucc m c t, PhiS_zero m c _ _ hz, PhiA0_eq]
        rw [outsAt0_A m c t h0]
        unfold out0_A_5 out0_A_6 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t)).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _)
        unfold owns; iexists _; isplitr
        swap; · iexact H6
        ipureintro; exact View.read_writes_of_cover _ _ _ _ _ (cover0_A_6 c _ _ _ _ _ _ _ _ _ _ _ _ _ _ _ _ _ _ _ _ _ _ _)
      · rw [PhiS_castSucc m c t, PhiS_pos m c _ _ hz]
        rw [outsAt0_A m c t h0]
        unfold out0_A_5 out0_A_6 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t)).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexists _; iexact HS0
        iintro ⟨H0, H1, H2, H3, H4, ⟨%e5, H5⟩, ⟨%e6, H6⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _)
        unfold owns; iexists _; isplitr
        swap; · iexact H6
        ipureintro; exact View.read_writes_of_cover _ _ _ _ _ (cover0_A_6 c _ _ _ _ _ _ _ _ _ _ _ _ _ _ _ _ _ _ _ _ _ _ _)
  · · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 128 := lt_of_lt_of_eq t.isLt (show cfg0.N = 128 from N_0); omega
      · rw [PhiS_castSucc m c t, PhiS_pos m c _ _ hz]
        rw [outsAt0_B m c t h0]
        simp only [before0_6_B m c t h0]
        unfold out0_B_5; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) _).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _)
        iapply (leaves0_6_B m c t h0)
        iexact H6

/-- The body called with the buffers of point `t`. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any later point the invariant gives it back: what the scratch holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- The run below, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- From any memory with zero counters every weakly fair execution of @main terminates, and every final state has every array of
    the launch at what the proof data say and every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The call runs, its arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- The run with each output array after it named, the arguments unchanged. -/
theorem run_arrays : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Projection

end
-- ==== Proof.InProj.Blocks.lean ====
/- What the input projection's body leaves at each grid point, as the values it computes. -/
module

public import proofs.«01_k».proof.Proof.InProj.Frame
public import Idealize.ShloMosaic.Lib.Pipeline.ValueKit.Tiles
public import Idealize.ShloMosaic.Lib.Pipeline.ValueKit.Partial
public import Idealize.ShloMosaic.Lib.Pipeline.ValueKit.Point
public import Idealize.ShloMosaic.Lib.Pipeline.ValueKit.Acc

@[expose] public section

set_option maxRecDepth 16384

noncomputable section

namespace Cert.Projection

open Cert.InProjIdeal Cert.InProjIdeal.Gen Idealize.ShloMosaic Idealize.ShloMosaic.TcCoe Idealize.SL.Sem
open Idealize.ShloMosaic.Tactic
open Idealize.ShloMosaic.Pipeline (Dat)

variable {F : FTy → Type} [FloatOps F]
variable (m : (ℓ : Loc nD τ sig) → Buf (Elt F) ℓ)

/-- A point's rows normalised, scaled and modulated by the sample's row of the modulation or, for context rows, by the fifth. -/
def normed (c : Dev nD) (t : Fin cfg0.N) (h0 : t.val % 4 = 0) : FVec F S1056x1024 .f32 :=
  k0_pay5 (BitVec.ofNat 32 (grid0.coords t 1).val) (iblk m c 0 t) (iblk m c 2 t)
    (View.ld (iblk m c 1 t) (Rect.unit (s := S8x3072) (k0_off1 (grid0.coords t)) S1x3072.size
      (k0_off1_inb (grid0.coords t) ((hcond0_0 t).mpr h0))))
    (View.ld (iblk m c 1 t) (Rect.unit (s := S8x3072) ![4, 0] S1x3072.size inb_S8x3072_S1x3072_4_0))

/-- The scratch at a row tile's first column block. -/
theorem scratch_A (c : Dev nD) (t : Fin cfg0.N) (h0 : t.val % 4 = 0) :
    (outsAt0 m c t.val t.isLt).2.2 = k0_pay2 (normed m c t h0) := by
  rw [outsAt0_A m c t h0]
  frame_out
  rfl

/-- At the others it is the one the point before left. -/
theorem scratch_B (c : Dev nD) (t : Fin cfg0.N) (h0 : ¬t.val % 4 = 0) :
    (outsAt0 m c t.val t.isLt).2.2 = (outsAt0 m c (t.val - 1) (Nat.lt_of_le_of_lt (Nat.sub_le _ _) t.isLt)).2.2 := by
  rw [outsAt0_B m c t h0]

/-- The second result's buffer at a row tile's first column block. -/
theorem small_A (c : Dev nD) (t : Fin cfg0.N) (h0 : t.val % 4 = 0) :
    (outsAt0 m c t.val t.isLt).2.1 = k0_pay3 (normed m c t h0) (iblk m c 4 t) := by
  rw [outsAt0_A m c t h0]
  frame_out
  rfl

/-- At the others it is the one the point before left. -/
theorem small_B (c : Dev nD) (t : Fin cfg0.N) (h0 : ¬t.val % 4 = 0) :
    (outsAt0 m c t.val t.isLt).2.1 = (outsAt0 m c (t.val - 1) (Nat.lt_of_le_of_lt (Nat.sub_le _ _) t.isLt)).2.1 := by
  rw [outsAt0_B m c t h0]

/-- The first result's buffer at a row tile's first column block. -/
theorem big_A (c : Dev nD) (t : Fin cfg0.N) (h0 : t.val % 4 = 0) :
    (outsAt0 m c t.val t.isLt).1 = k0_pay4 (k0_pay2 (normed m c t h0)) (iblk m c 3 t) := by
  rw [outsAt0_A m c t h0]
  frame_out
  rfl

/-- And at the others. -/
theorem big_B (c : Dev nD) (t : Fin cfg0.N) (h0 : ¬t.val % 4 = 0) :
    (outsAt0 m c t.val t.isLt).1
      = k0_pay4 (outsAt0 m c (t.val - 1) (Nat.lt_of_le_of_lt (Nat.sub_le _ _) t.isLt)).2.2 (iblk m c 3 t) := by
  rw [outsAt0_B m c t h0]
  frame_out
  exact congrArg (fun z => k0_pay4 z (iblk m c 3 t)) (Memref.IsWhole.read_unread _ _)

/-- So the first result's buffer is always the product of what the scratch holds after the point. -/
theorem big_eq (c : Dev nD) (t : Fin cfg0.N) :
    (outsAt0 m c t.val t.isLt).1 = k0_pay4 (outsAt0 m c t.val t.isLt).2.2 (iblk m c 3 t) := by
  by_cases h0 : t.val % 4 = 0
  · rw [big_A m c t h0, scratch_A m c t h0]
  · rw [big_B m c t h0, scratch_B m c t h0]

end Cert.Projection

end
-- ==== Proof.InProj.Array.lean ====
/- The input projection's two output arrays at an index, as functions of the call's arguments: the blocks of the grid's points
   put together. -/
module

public import proofs.«01_k».proof.Proof.InProj.Payloads
public import proofs.«01_k».proof.Proof.InProj.Blocks

@[expose] public section

set_option maxRecDepth 16384

noncomputable section

namespace Cert.Projection

open Cert.InProjIdeal Cert.InProjIdeal.Gen Cert.Merging Idealize.ShloMosaic Idealize.ShloMosaic.TcCoe Idealize.SL.Sem
open Idealize.ShloMosaic.Tactic
open Idealize.ShloMosaic.Pipeline (Dat)

variable (m : (ℓ : Loc nD τ sig) → Buf (Elt Ideal) ℓ)

/-! ## Where the blocks lie -/

/-- The activations: which block. -/
theorem index0 : ∀ t : Fin cfg0.N, win0_0.index t = ![t.val / 32, t.val / 4 % 8, 0] := by decide +kernel
/-- The only block of the modulation. -/
theorem index1 : ∀ t : Fin cfg0.N, win0_1.index t = ![0, 0] := by decide +kernel
/-- The only block of the scale. -/
theorem index2 : ∀ t : Fin cfg0.N, win0_2.index t = ![0, 0] := by decide +kernel
/-- The wide matrix: which block. -/
theorem index3 : ∀ t : Fin cfg0.N, win0_3.index t = ![0, t.val % 4] := by decide +kernel
/-- The only block of the narrow matrix. -/
theorem index4 : ∀ t : Fin cfg0.N, win0_4.index t = ![0, 0] := by decide +kernel
/-- The first output: which block. -/
theorem index5 : ∀ t : Fin cfg0.N, win0_5.index t = ![t.val / 32, t.val / 4 % 8, t.val % 4] := by decide +kernel
/-- The second output: which block. -/
theorem index6 : ∀ t : Fin cfg0.N, win0_6.index t = ![t.val / 32, t.val / 4 % 8, 0] := by decide +kernel

/-- No block of the first output is cut. -/
theorem xsize0_5 : ∀ t : Fin cfg0.N, ∀ a, (cfg0.win 5).xsize (cfg0.grid.coords t) a = (cfg0.win 5).size a := by decide +kernel
/-- Nor one of the second. -/
theorem xsize0_6 : ∀ t : Fin cfg0.N, ∀ a, (cfg0.win 6).xsize (cfg0.grid.coords t) a = (cfg0.win 6).size a := by decide +kernel

/-- The grid has 128 points. -/
theorem lt_128 (t : Fin cfg0.N) : t.val < 128 := lt_of_lt_of_eq t.isLt (show cfg0.N = 128 from N_0)

/-- The sample of a point. -/
theorem coord0 : ∀ t : Fin cfg0.N, k0_off1 (grid0.coords t) = ![t.val / 32, 0] := by decide +kernel
/-- The row tile of a point. -/
theorem coord1 : ∀ t : Fin cfg0.N, (grid0.coords t 1).val = t.val / 4 % 8 := by decide +kernel

/-- The sample that a point works on. -/
abbrev smp (t : Fin cfg0.N) : Fin 4 := ⟨t.val / 32, by have := lt_128 t; omega⟩
/-- The row of the arguments that a point's row `r` is. -/
abbrev rw_ (t : Fin cfg0.N) (r : Fin 1056) : Fin 8448 := ⟨t.val / 4 % 8 * 1056 + r.val, by omega⟩
/-- The column of the wide matrix that a point's column `j` is. -/
abbrev col (t : Fin cfg0.N) (j : Fin 3456) : Fin 13824 := ⟨t.val % 4 * 3456 + j.val, by omega⟩

/-- The activations, at an index of a point's block. -/
theorem x_at (c : Dev nD) (t : Fin cfg0.N) (r : Fin 1056) (l : Fin 1024) :
    iblk m c 0 t (ix3 (n0 := 1) (n1 := 1056) (n2 := 1024) 0 r l)
      = m ((c : Thread nD τ).loc main_arg0) (ix3 (n0 := 4) (n1 := 8448) (n2 := 1024) (smp t) (rw_ t r) l) := by
  blk_simp [iblk]
  refine congrArg _ ?_
  blk_ext! [index0]

/-- The wide matrix, at an index of a point's block. -/
theorem w_at (c : Dev nD) (t : Fin cfg0.N) (k : Fin 1024) (j : Fin 3456) :
    iblk m c 3 t (ix2 (n0 := 1024) (n1 := 3456) k j)
      = m ((c : Thread nD τ).loc main_arg3) (ix2 (n0 := 1024) (n1 := 13824) k (col t j)) := by
  blk_simp [iblk]
  refine congrArg _ ?_
  blk_ext! [index3]

/-- The modulation is staged whole. -/
theorem whole1 (c : Dev nD) (t : Fin cfg0.N) : iblk m c 1 t = m ((c : Thread nD τ).loc main_arg1) := by
  funext i
  blk_simp [iblk]
  refine congrArg _ ?_
  blk_ext! [index1]

/-- So is the scale. -/
theorem whole2 (c : Dev nD) (t : Fin cfg0.N) : iblk m c 2 t = m ((c : Thread nD τ).loc main_arg2) := by
  funext i
  blk_simp [iblk]
  refine congrArg _ ?_
  blk_ext! [index2]

/-- And the narrow matrix. -/
theorem whole4 (c : Dev nD) (t : Fin cfg0.N) : iblk m c 4 t = m ((c : Thread nD τ).loc main_arg4) := by
  funext i
  blk_simp [iblk]
  refine congrArg _ ?_
  blk_ext! [index4]

/-! ## A point's rows -/

/-- The modulation row of a point's sample. -/
theorem mod_at (w : Vec Ideal S8x3072 .f32) (t : Fin cfg0.N) (inb) (j : Fin 3072) :
    View.ld w (Rect.unit (s := S8x3072) (k0_off1 (grid0.coords t)) S1x3072.size inb) (ix2 0 j)
      = w (ix2 (n0 := 8) (n1 := 3072) ⟨(smp t).val, by omega⟩ j) := by
  refine View.ld_unit_apply_of _ _ _ _ _ _ fun a => Eq.trans ?_ (congrArg (· + (ix2 (n0 := 1) (n1 := 3072) 0 j a).val) (congrFun (coord0 t) a).symm)
  match a with
  | ⟨0, _⟩ => rfl
  | ⟨1, _⟩ => show j.val = 0 + j.val; omega

/-- The modulation row of the context rows. -/
theorem ctx_at (w : Vec Ideal S8x3072 .f32) (inb) (j : Fin 3072) :
    View.ld w (Rect.unit (s := S8x3072) ![4, 0] S1x3072.size inb) (ix2 0 j) = w (ix2 (n0 := 8) (n1 := 3072) 4 j) := by
  refine View.ld_unit_apply_of _ _ _ _ _ _ fun a => ?_
  match a with
  | ⟨0, _⟩ => rfl
  | ⟨1, _⟩ => show j.val = 0 + j.val; omega

/-- The rows of a row tile's first point, from the arguments. -/
theorem normed_at (c : Dev nD) (t : Fin cfg0.N) (h0 : t.val % 4 = 0) (r : Fin 1056) (k : Fin 1024) :
    normed m c t h0 (ix2 r k)
      = hrow (m ((c : Thread nD τ).loc main_arg0)) (m ((c : Thread nD τ).loc main_arg1)) (m ((c : Thread nD τ).loc main_arg2))
          (smp t) (rw_ t r) k := by
  have e_x : ∀ l, iblk m c 0 t (ix3 (n0 := 1) (n1 := 1056) (n2 := 1024) 0 r l) = _ := x_at m c t r
  unfold normed hrow
  rw [coord1, pay5_apply _ (by omega)]
  simp only [e_x, whole1 m c t, whole2 m c t]
  by_cases h : 8192 ≤ t.val / 4 % 8 * 1056 + r.val
  · simp only [mrow, if_pos h]
    rw [ctx_at, ctx_at]
  · simp only [mrow, if_neg h]
    rw [mod_at, mod_at]

/-- What the scratch holds after a point, from the arguments: the point's rows, computed at the row tile's first point and kept
    at the others. -/
theorem scratch_at (c : Dev nD) (n : ℕ) : ∀ t : Fin cfg0.N, t.val % 4 = n → ∀ (r : Fin 1056) (k : Fin 1024),
    (outsAt0 m c t.val t.isLt).2.2 (ix2 r k)
      = hrow (m ((c : Thread nD τ).loc main_arg0)) (m ((c : Thread nD τ).loc main_arg1)) (m ((c : Thread nD τ).loc main_arg2))
          (smp t) (rw_ t r) k := by
  induction n with
  | zero =>
    intro t h0 r k
    rw [scratch_A m c t h0, pay2_apply, normed_at]
  | succ n ih =>
    intro t hn r k
    have h0 : ¬t.val % 4 = 0 := by omega
    rw [scratch_B m c t h0]
    refine (ih ⟨t.val - 1, Nat.lt_of_le_of_lt (Nat.sub_le _ _) t.isLt⟩ (by show (t.val - 1) % 4 = n; omega) r k).trans ?_
    have hb : smp ⟨t.val - 1, Nat.lt_of_le_of_lt (Nat.sub_le _ _) t.isLt⟩ = smp t :=
      Fin.ext (by show (t.val - 1) / 32 = t.val / 32; omega)
    have hr : rw_ ⟨t.val - 1, Nat.lt_of_le_of_lt (Nat.sub_le _ _) t.isLt⟩ r = rw_ t r :=
      Fin.ext (by show (t.val - 1) / 4 % 8 * 1056 + r.val = t.val / 4 % 8 * 1056 + r.val; omega)
    rw [hb, hr]

/-- What a point leaves in the first output's block. -/
theorem big_at (c : Dev nD) (t : Fin cfg0.N) (r : Fin 1056) (j : Fin 3456) :
    (outsAt0 m c t.val t.isLt).1 (ix3 0 r j)
      = proj (m ((c : Thread nD τ).loc main_arg0)) (m ((c : Thread nD τ).loc main_arg1)) (m ((c : Thread nD τ).loc main_arg2))
          (m ((c : Thread nD τ).loc main_arg3)) (smp t) (rw_ t r) (col t j) := by
  unfold proj
  rw [big_eq, pay4_apply]
  exact Finset.sum_congr rfl fun k _ => congrArg₂ (fun y z : EReal => y * z) (scratch_at m c _ t rfl r k) (w_at m c t k j)

/-- What a point leaves in the second output's block: written at the row tile's first point and kept at the others. -/
theorem small_at (c : Dev nD) (n : ℕ) : ∀ t : Fin cfg0.N, t.val % 4 = n → ∀ (r : Fin 1056) (j : Fin 128),
    (outsAt0 m c t.val t.isLt).2.1 (ix3 0 r j)
      = proj (m ((c : Thread nD τ).loc main_arg0)) (m ((c : Thread nD τ).loc main_arg1)) (m ((c : Thread nD τ).loc main_arg2))
          (m ((c : Thread nD τ).loc main_arg4)) (smp t) (rw_ t r) j := by
  induction n with
  | zero =>
    intro t h0 r j
    unfold proj
    rw [small_A m c t h0, pay3_apply, whole4]
    exact Finset.sum_congr rfl fun k _ => congrArg (fun y : EReal => y * _) (normed_at m c t h0 r k)
  | succ n ih =>
    intro t hn r j
    have h0 : ¬t.val % 4 = 0 := by omega
    rw [small_B m c t h0]
    refine (ih ⟨t.val - 1, Nat.lt_of_le_of_lt (Nat.sub_le _ _) t.isLt⟩ (by show (t.val - 1) % 4 = n; omega) r j).trans ?_
    have hb : smp ⟨t.val - 1, Nat.lt_of_le_of_lt (Nat.sub_le _ _) t.isLt⟩ = smp t :=
      Fin.ext (by show (t.val - 1) / 32 = t.val / 32; omega)
    have hr : rw_ ⟨t.val - 1, Nat.lt_of_le_of_lt (Nat.sub_le _ _) t.isLt⟩ r = rw_ t r :=
      Fin.ext (by show (t.val - 1) / 4 % 8 * 1056 + r.val = t.val / 4 % 8 * 1056 + r.val; omega)
    rw [hb, hr]

/-! ## The arrays -/

/-- The projection at equal indices. -/
theorem proj_congr {n : ℕ} (x : Act.Idx → EReal) (mod : (⟨2, ![8, 3072]⟩ : Shape).Idx → EReal) (g : Scale.Idx → EReal)
    (w : (⟨2, ![1024, n]⟩ : Shape).Idx → EReal) {b b' : Fin 4} {R R' : Fin 8448} {j j' : Fin n} (h : b = b') (hR : R = R')
    (hj : j = j') : proj x mod g w b R j = proj x mod g w b' R' j' := by
  rw [h, hR, hj]

/-- The first output array after the run, at an index. -/
theorem array5_at (c : Dev nD) (i : S4x8448x13824.Idx) :
    (dats m 0 c).arrAt 5 cfg0.N i
      = proj (n := 13824) (m ((c : Thread nD τ).loc main_arg0)) (m ((c : Thread nD τ).loc main_arg1))
          (m ((c : Thread nD τ).loc main_arg2)) (m ((c : Thread nD τ).loc main_arg3)) (i 0) (i 1) (i 2) := by
  have hi1 : (i 1).val < 8448 := (i 1).isLt
  refine ((dats m 0 c).arrAt_apply_of_coversWhere 5
    (fun i : S4x8448x13824.Idx =>
      proj (n := 13824) (m ((c : Thread nD τ).loc main_arg0)) (m ((c : Thread nD τ).loc main_arg1))
        (m ((c : Thread nD τ).loc main_arg2)) (m ((c : Thread nD τ).loc main_arg3)) (i 0) (i 1) (i 2))
    (P := fun i : S4x8448x13824.Idx => (i 1).val / 1056 < 8) (fun β => β (1 : Fin 3) < 8) (by decide +kernel)
    (fun t hf y => ?_) (fun j => Iff.rfl) i).trans (if_pos (by show (i 1).val / 1056 < 8; omega))
  blk_simp
  rw [after0_5]
  have hy0 : (y 0).val < 1 := lt_of_lt_of_eq (y 0).isLt (xsize0_5 t 0)
  have hy1 : (y 1).val < 1056 := lt_of_lt_of_eq (y 1).isLt (xsize0_5 t 1)
  have hy2 : (y 2).val < 3456 := lt_of_lt_of_eq (y 2).isLt (xsize0_5 t 2)
  have hx : (cfg0.win 5).xinj (cfg0.grid.coords t) y
      = ix3 (n0 := 1) (n1 := 1056) (n2 := 3456) 0 ⟨(y 1).val, hy1⟩ ⟨(y 2).val, hy2⟩ := by
    funext a
    refine Fin.ext ?_
    match a with
    | ⟨0, _⟩ => show (y 0).val = 0; omega
    | ⟨1, _⟩ => rfl
    | ⟨2, _⟩ => rfl
  refine (congrArg (outsAt0 m c t.val t.isLt).1 hx).trans ?_
  refine (big_at m c t _ _).trans ?_
  have hb : smp t = (win0_5.blk t).view.emb y 0 := Fin.ext (by blk_simp [index5])
  have hr : rw_ t ⟨(y 1).val, hy1⟩ = (win0_5.blk t).view.emb y 1 := Fin.ext (by blk_simp [index5])
  have hc : col t ⟨(y 2).val, hy2⟩ = (win0_5.blk t).view.emb y 2 := Fin.ext (by blk_simp [index5])
  exact proj_congr _ _ _ _ hb hr hc

/-- The second output array after the run, at an index. -/
theorem array6_at (c : Dev nD) (i : S4x8448x128.Idx) :
    (dats m 0 c).arrAt 6 cfg0.N i
      = proj (n := 128) (m ((c : Thread nD τ).loc main_arg0)) (m ((c : Thread nD τ).loc main_arg1))
          (m ((c : Thread nD τ).loc main_arg2)) (m ((c : Thread nD τ).loc main_arg4)) (i 0) (i 1) (i 2) := by
  have hi1 : (i 1).val < 8448 := (i 1).isLt
  refine ((dats m 0 c).arrAt_apply_of_coversWhere 6
    (fun i : S4x8448x128.Idx =>
      proj (n := 128) (m ((c : Thread nD τ).loc main_arg0)) (m ((c : Thread nD τ).loc main_arg1))
        (m ((c : Thread nD τ).loc main_arg2)) (m ((c : Thread nD τ).loc main_arg4)) (i 0) (i 1) (i 2))
    (P := fun i : S4x8448x128.Idx => (i 1).val / 1056 < 8) (fun β => β (1 : Fin 3) < 8) (by decide +kernel)
    (fun t hf y => ?_) (fun j => Iff.rfl) i).trans (if_pos (by show (i 1).val / 1056 < 8; omega))
  blk_simp
  rw [after0_6]
  have hy0 : (y 0).val < 1 := lt_of_lt_of_eq (y 0).isLt (xsize0_6 t 0)
  have hy1 : (y 1).val < 1056 := lt_of_lt_of_eq (y 1).isLt (xsize0_6 t 1)
  have hy2 : (y 2).val < 128 := lt_of_lt_of_eq (y 2).isLt (xsize0_6 t 2)
  have hx : (cfg0.win 6).xinj (cfg0.grid.coords t) y
      = ix3 (n0 := 1) (n1 := 1056) (n2 := 128) 0 ⟨(y 1).val, hy1⟩ ⟨(y 2).val, hy2⟩ := by
    funext a
    refine Fin.ext ?_
    match a with
    | ⟨0, _⟩ => show (y 0).val = 0; omega
    | ⟨1, _⟩ => rfl
    | ⟨2, _⟩ => rfl
  refine (congrArg (outsAt0 m c t.val t.isLt).2.1 hx).trans ?_
  refine (small_at m c _ t rfl _ _).trans ?_
  have hb : smp t = (win0_6.blk t).view.emb y 0 := Fin.ext (by blk_simp [index6])
  have hr : rw_ t ⟨(y 1).val, hy1⟩ = (win0_6.blk t).view.emb y 1 := Fin.ext (by blk_simp [index6])
  have hc : (⟨(y 2).val, hy2⟩ : Fin 128) = (win0_6.blk t).view.emb y 2 := Fin.ext (by blk_simp [index6])
  exact proj_congr _ _ _ _ hb hr hc

end Cert.Projection

end
-- ==== Proof.InProj.Reference.lean ====
/- The input projection's reference read at one index, over the extended reals. -/
module

public import proofs.«01_k».proof.Proof.Gen.InProjRefIdeal.Read
public import proofs.«01_k».proof.Proof.InProj.Layer
public import Idealize.ShloMosaic.Lib.Pointwise
public import Idealize.ShloMosaic.Lib.IdealHost

@[expose] public section

set_option maxRecDepth 16384

noncomputable section

namespace Cert.InProjRefIdeal.Read

open Cert.InProjRefIdeal Cert.InProjRefIdeal.Gen Cert.Merging Cert.Projection Idealize.ShloMosaic

/-- The latent rows, normalised, scaled and modulated. -/
theorem latent_at (x : FVec Ideal S4x8448x1024 .f32) (mod : FVec Ideal S8x3072 .f32) (g : FVec Ideal S1x1024 .f32) (b : Fin 4)
    (row : Fin 8192) (k : Fin 1024) :
    val_main_v27 (F := Ideal) x mod g (ix3 b row k) = hrow x mod g b ⟨row.val, by omega⟩ k := by
  have e : mrow b ⟨row.val, by omega⟩ = ⟨b.val, by omega⟩ := if_neg (by show ¬8192 ≤ row.val; omega)
  unfold hrow rms
  rw [e]
  pointwise [val_main_v27, val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_cst_2]

/-- The context rows. -/
theorem context_at (x : FVec Ideal S4x8448x1024 .f32) (mod : FVec Ideal S8x3072 .f32) (g : FVec Ideal S1x1024 .f32) (b : Fin 4)
    (row : Fin 256) (k : Fin 1024) :
    val_main_v54 (F := Ideal) x mod g (ix3 b row k) = hrow x mod g b ⟨8192 + row.val, by omega⟩ k := by
  have e : mrow b ⟨8192 + row.val, by omega⟩ = 4 := if_pos (by show 8192 ≤ 8192 + row.val; omega)
  unfold hrow rms
  rw [e]
  pointwise [val_main_v54, val_main_v53, val_main_v52, val_main_v51, val_main_v50, val_main_v49, val_main_v48, val_main_v47,
    val_main_v46, val_main_v45, val_main_v44, val_main_v43, val_main_v42, val_main_v41, val_main_v40, val_main_v39,
    val_main_v38, val_main_v37, val_main_v36, val_main_v35, val_main_v34, val_main_v33, val_main_v32, val_main_v31,
    val_main_v30, val_main_v29, val_main_v28, val_main_v1, val_main_v0, val_main_cst_3, val_main_cst_4, val_main_cst_5,
    val_main_cst_6]

/-- All the rows. -/
theorem rows_at (x : FVec Ideal S4x8448x1024 .f32) (mod : FVec Ideal S8x3072 .f32) (g : FVec Ideal S1x1024 .f32) (b : Fin 4)
    (row : Fin 8448) (k : Fin 1024) :
    val_main_v55 (F := Ideal) x mod g (ix3 b row k) = hrow x mod g b row k := by
  unfold val_main_v55
  by_cases h : row.val < 8192
  · refine Eq.trans ?_ (latent_at x mod g b ⟨row.val, h⟩ k)
    generalize val_main_v27 (F := Ideal) x mod g = y
    generalize val_main_v54 (F := Ideal) x mod g = z
    pointwise
    exact dif_pos h
  · refine Eq.trans ?_ ((context_at x mod g b ⟨row.val - 8192, by omega⟩ k).trans
      (congrArg (fun R => hrow x mod g b R k) (Fin.ext (by show 8192 + (row.val - 8192) = row.val; omega))))
    generalize val_main_v27 (F := Ideal) x mod g = y
    generalize val_main_v54 (F := Ideal) x mod g = z
    pointwise
    exact dif_neg h

/-- The first result. -/
theorem big_at (x : FVec Ideal S4x8448x1024 .f32) (mod : FVec Ideal S8x3072 .f32) (g : FVec Ideal S1x1024 .f32)
    (w : FVec Ideal S1024x13824 .bf16) (b : Fin 4) (row : Fin 8448) (j : Fin 13824) :
    val_main_v58 (F := Ideal) x mod g w (ix3 b row j) = proj (n := 13824) x mod g w b row j := by
  unfold proj
  simp only [← rows_at]
  unfold val_main_v58 val_main_v57
  generalize val_main_v55 (F := Ideal) x mod g = y
  pointwise [val_main_v56]

/-- The second result. -/
theorem small_at (x : FVec Ideal S4x8448x1024 .f32) (mod : FVec Ideal S8x3072 .f32) (g : FVec Ideal S1x1024 .f32)
    (w : FVec Ideal S1024x128 .bf16) (b : Fin 4) (row : Fin 8448) (j : Fin 128) :
    val_main_v60 (F := Ideal) x mod g w (ix3 b row j) = proj (n := 128) x mod g w b row j := by
  unfold proj
  simp only [← rows_at]
  unfold val_main_v60
  generalize val_main_v55 (F := Ideal) x mod g = y
  pointwise [val_main_v59]

end Cert.InProjRefIdeal.Read

end
-- ==== Proof.InProj.Claims.lean ====
/- The claims about the input projection: its two frames, the reference's frame, and the equality of the call's two outputs and
   the reference's two results. -/
module

public import proofs.«01_k».proof.Defs
public import proofs.«01_k».proof.Proof.InProj.Array
public import proofs.«01_k».proof.Proof.InProj.Reference
public import proofs.«01_k».proof.Proof.InProj.Printed.Frame
public import proofs.«01_k».proof.Proof.Gen.InProjRefIdeal.Run
public import Idealize.ShloMosaic.Lib.Quiescent

@[expose] public section

set_option maxRecDepth 16384

noncomputable section

namespace Cert.Projection

open Idealize.ShloMosaic Idealize.SL.Sem

/-- The call as printed runs, keeps its arguments and leaves every counter at zero. -/
theorem frame_p : Cert.quiescent_InProj := fun m ρ _ => Cert.Projection.Printed.frame (F := Bits) m ρ

/-- So does its idealization. -/
theorem frame_pi : Cert.quiescent_InProjIdeal := fun m ρ _ => Cert.Projection.frame (F := Ideal) m ρ

/-- The reference runs, keeps its arguments and leaves every counter at zero. -/
theorem frame_ri : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

/-- The idealization changes no operation. -/
theorem preserves : Cert.preserves_InProj_InProjIdeal := trivial

/-- The call's outputs and the reference's results are equal at every index. -/
theorem algebraic : Cert.algebraic_InProjIdeal_InProjRefIdeal := by
  intro m ρ m' ρ' _ hagree
  refine ⟨fun c => (dats m 0 c).arrAt 5 Cert.InProjIdeal.cfg0.N, fun c => (dats m 0 c).arrAt 6 Cert.InProjIdeal.cfg0.N, ?_, ?_⟩
  · exact run_arrays (F := Ideal) m ρ
  · refine (θ_run Cert.InProjRefIdeal.defs _ _).mono (fun r h c => ⟨funext fun i => ?_, funext fun i => ?_, (h c).2.2⟩)
      (Cert.InProjRefIdeal.Value.run (F := Ideal) m' ρ')
    · obtain ⟨e0, e1, e2, e3, e4⟩ := hagree c
      rw [congrFun (h c).1 i, Cert.InProjRefIdeal.Read.val_main_v58_eq, e0, e1, e2, e3]
      refine Eq.trans ?_ (array5_at m c i).symm
      refine Eq.trans ?_ (Cert.InProjRefIdeal.Read.big_at _ _ _ _ (i 0) (i 1) (i 2))
      exact congrArg _ (eq_ix3 i)
    · obtain ⟨e0, e1, e2, e3, e4⟩ := hagree c
      rw [congrFun (h c).2.1 i, Cert.InProjRefIdeal.Read.val_main_v60_eq, e0, e1, e2, e4]
      refine Eq.trans ?_ (array6_at m c i).symm
      refine Eq.trans ?_ (Cert.InProjRefIdeal.Read.small_at _ _ _ _ (i 0) (i 1) (i 2))
      exact congrArg _ (eq_ix3 i)

end Cert.Projection

end
-- ==== Proof.Merge.Payloads.lean ====
/- The values the merge call's body computes, read at one index over the extended reals. -/
module

public import proofs.«01_k».proof.Proof.Gen.MergeIdeal.Skeleton
public import proofs.«01_k».proof.Proof.Merge.Layer
public import Idealize.ShloMosaic.Lib.Pointwise
public import Idealize.ShloMosaic.Lib.ValueIdx
public import Idealize.ShloMosaic.Lib.WordCmp

@[expose] public section

set_option maxRecDepth 16384

noncomputable section

namespace Cert.MergeIdeal.MergeValue

open Cert.MergeIdeal Cert.MergeIdeal.Gen Cert.Merging Idealize.ShloMosaic

/-- The named constant the kernel multiplies by before its exponential is `-1 / log 2`. -/
theorem neg_log2e :
    Named.named (F := Ideal) Cert.MergeIdeal.κ "neg_log2e" (φ := .f32) 0xBFB8AA3B#32 = ((-((Real.log 2)⁻¹) : ℝ) : EReal) :=
  IdealRules.named_const.ideal_named_scalar _ _ _ _ rfl

/-- The output block as stored: the residual plus the gated projection. -/
theorem pay1_apply (o g : FVec Ideal S512x1024 .f32) (x : Vec Ideal S1x512x1024 .f32) (r : Fin 512) (j : Fin 1024) :
    k0_pay1 (F := Ideal) o g x (ix3 0 r j) = x (ix3 0 r j) + g (ix2 r j) * o (ix2 r j) := by
  pointwise [k0_pay1]

/-- The attention branch's projection. -/
theorem pay2_apply (x : Vec Ideal S1x512x1024 .bf16) (w : Vec Ideal S1x1024x1024 .bf16) (r : Fin 512) (j : Fin 1024) :
    k0_pay2 (F := Ideal) x w (ix2 r j) = ∑ k : Fin 1024, x (ix3 0 r k) * w (ix3 0 k j) := by
  pointwise [k0_pay2]

/-- The state space branch: its two directions summed, gated and normalised. -/
theorem pay3_apply (f b z : Vec Ideal S1x512x1024 .bf16) (r : Fin 512) (j : Fin 1024) :
    k0_pay3 (F := Ideal) f b z (ix2 r j)
      = rms 0x44800000#32 (fun l : Fin 1024 => (f (ix3 0 r l) + b (ix3 0 r l)) * (z (ix3 0 r l) * sgk (z (ix3 0 r l))))
          ((f (ix3 0 r j) + b (ix3 0 r j)) * (z (ix3 0 r j) * sgk (z (ix3 0 r j)))) := by
  unfold rms sgk
  pointwise [k0_pay3]
  simp only [neg_log2e]
  rfl

/-- Its projection. -/
theorem pay4_apply (y : FVec Ideal S512x1024 .f32) (g : Vec Ideal S1x1024 .f32) (w : Vec Ideal S1x1024x1024 .bf16)
    (r : Fin 512) (j : Fin 1024) :
    k0_pay4 (F := Ideal) y g w (ix2 r j) = ∑ k : Fin 1024, y (ix2 r k) * g (ix2 0 k) * w (ix3 0 k j) := by
  pointwise [k0_pay4]

/-- The recurrent branch: its two directions summed and gated. -/
theorem pay5_apply (f b o : Vec Ideal S1x512x1024 .bf16) (r : Fin 512) (j : Fin 1024) :
    k0_pay5 (F := Ideal) f b o (ix2 r j) = (f (ix3 0 r j) + b (ix3 0 r j)) * sgk (o (ix3 0 r j)) := by
  unfold sgk
  pointwise [k0_pay5]
  simp only [neg_log2e]
  rfl

/-- The SiLU of the recurrent branch's gate. -/
theorem pay10_apply (z : Vec Ideal S1x512x1024 .bf16) (r : Fin 512) (j : Fin 1024) :
    k0_pay10 (F := Ideal) z (ix2 r j) = z (ix3 0 r j) * sgk (z (ix3 0 r j)) := by
  unfold sgk
  pointwise [k0_pay10]
  simp only [neg_log2e]
  rfl

/-- The merge of the three branches by the sigmoid gates, and the output projection. -/
theorem pay11_apply (pd pa yc sz : FVec Ideal S512x1024 .f32) (g : Vec Ideal S1x512x3072 .bf16)
    (w : Vec Ideal S1x1024x1024 .bf16) (wo : Vec Ideal S1024x1024 .bf16) (r : Fin 512) (j : Fin 1024) :
    k0_pay11 (F := Ideal) pd pa yc sz g w wo (ix2 r j)
      = ∑ k : Fin 1024,
          (sgk (g (ix3 0 r ⟨k.val, by omega⟩)) * pa (ix2 r k) + sgk (g (ix3 0 r ⟨1024 + k.val, by omega⟩)) * pd (ix2 r k)
            + sgk (g (ix3 0 r ⟨2048 + k.val, by omega⟩)) * ∑ l : Fin 1024, yc (ix2 r l) * sz (ix2 r l) * w (ix3 0 l k))
          * wo (ix2 k j) := by
  unfold sgk
  pointwise [k0_pay11]
  simp only [neg_log2e]
  rfl

/-- The gate of the residual: every row of the first sixteen blocks is a latent row, so it is the sample's own. -/
theorem pay12_apply (i : ℕ) (hi : i < 16) (u v : Vec Ideal S1x1024 .f32) (r : Fin 512) (j : Fin 1024) :
    k0_pay12 (F := Ideal) (BitVec.ofNat 32 i) u v (ix2 r j) = v (ix2 0 j) := by
  pointwise [k0_pay12]
  have hr := r.isLt
  have h : IntOp.cmpi CmpIPredicate.sge (IntOp.addi (Scalar.muli (BitVec.ofNat 32 i) 512#32) (BitVec.ofNat 32 r.val)) 8192#32 = 0#1 := by
    have e : IntOp.addi (Scalar.muli (BitVec.ofNat 32 i) 512#32) (BitVec.ofNat 32 r.val) = BitVec.ofNat 32 (i * 512 + r.val) := by
      show BitVec.ofNat 32 i * BitVec.ofNat 32 512 + BitVec.ofNat 32 r.val = _
      rw [← BitVec.ofNat_mul, ← BitVec.ofNat_add]
    rw [e, WordCmp.cmpi_sge_ofNat (by omega) (by omega), decide_eq_false (by omega)]
    rfl
  rw [h]
  rfl

/-- The recurrent branch's four heads of 256 lanes normalised, at one lane. -/
theorem pay9_apply (f b o : Vec Ideal S1x512x1024 .bf16) (g : Vec Ideal S1x1024 .f32) (r : Fin 512) (j : Fin 1024) :
    k0_pay9 (F := Ideal) (k0_pay5 f b o) (k0_pay6 f b o) (k0_pay7 f b o) (k0_pay8 f b o) g (ix2 r j)
      = rms 0x43800000#32 (fun l : Fin 256 => k0_pay5 (F := Ideal) f b o (ix2 r ⟨256 * (j.val / 256) + l.val, by omega⟩))
          (k0_pay5 (F := Ideal) f b o (ix2 r j)) * g (ix2 0 j) := by
  unfold rms
  pointwise [k0_pay9, k0_pay6, k0_pay7, k0_pay8]
  generalize k0_pay5 (F := Ideal) f b o = p
  refine congrArg (· * g (ix2 0 j)) ?_
  have key : ∀ (o' : ℕ) (jj : Fin 1024) (hs : ∀ x : Fin 256, o' + x.val < 1024), jj = j → o' = 256 * (j.val / 256) →
      p (ix2 r jj) * Ideal.rsqrt (Ideal.div
          (∑ x : Fin 256, p (ix2 r ⟨o' + x.val, hs x⟩) * p (ix2 r ⟨o' + x.val, hs x⟩))
          (Ideal.ofBits .f32 0x43800000#32) + Ideal.ofBits .f32 0x358637BD#32)
        = p (ix2 r j) * Ideal.rsqrt (Ideal.div
          (∑ x : Fin 256, p (ix2 r ⟨256 * (j.val / 256) + x.val, by omega⟩)
            * p (ix2 r ⟨256 * (j.val / 256) + x.val, by omega⟩))
          (Ideal.ofBits .f32 0x43800000#32) + Ideal.ofBits .f32 0x358637BD#32) := by
    rintro o' jj hs rfl rfl
    rfl
  have hj := j.isLt
  by_cases h0 : j.val < 256
  · rw [dif_pos h0]
    simpa only [Nat.zero_add] using key 0 j (fun x => by omega) rfl (by omega)
  rw [dif_neg h0]
  by_cases h1 : j.val - 256 < 256
  · rw [dif_pos h1]
    exact key 256 ⟨256 + (j.val - 256), by omega⟩ (fun x => by omega) (Fin.ext (by show 256 + (j.val - 256) = j.val; omega)) (by omega)
  rw [dif_neg h1]
  by_cases h2 : j.val - 256 - 256 < 256
  · rw [dif_pos h2]
    exact key 512 ⟨512 + (j.val - 256 - 256), by omega⟩ (fun x => by omega) (Fin.ext (by show 512 + (j.val - 256 - 256) = j.val; omega)) (by omega)
  · rw [dif_neg h2]
    exact key 768 ⟨768 + (j.val - 256 - 256 - 256), by omega⟩ (fun x => by omega)
      (Fin.ext (by show 768 + (j.val - 256 - 256 - 256) = j.val; omega)) (by omega)

end Cert.MergeIdeal.MergeValue

end
-- ==== Proof.Merge.Array.lean ====
/- The merge call's output array at an index, as one function of the call's arguments: the blocks of the grid's points put
   together. -/
module

public import proofs.«01_k».proof.Proof.Merge.Payloads
public import proofs.«01_k».proof.Proof.Gen.MergeIdeal.Value
public import Idealize.ShloMosaic.Lib.Pipeline.ValueKit.Tiles
public import Idealize.ShloMosaic.Lib.Pipeline.ValueKit.Partial
public import Idealize.ShloMosaic.Lib.Pipeline.ValueKit.Point

@[expose] public section

set_option maxRecDepth 16384

noncomputable section

namespace Cert.MergeIdeal.MergeValue

open Cert.MergeIdeal Cert.MergeIdeal.Gen Cert.Merging Idealize.ShloMosaic Idealize.ShloMosaic.TcCoe Idealize.SL.Sem
open Idealize.ShloMosaic.Tactic
open Idealize.ShloMosaic.Pipeline (Dat)

variable (m : (ℓ : Loc nD τ sig) → Buf (Elt Ideal) ℓ)

/-! ## Where the blocks lie -/

/-- The residual rows: which block. -/
theorem index0 : ∀ t : Fin cfg0.N, win0_0.index t = ![t.val / 16, t.val % 16, 0] := by decide +kernel
/-- The state space branch's forward rows: which block. -/
theorem index2 : ∀ t : Fin cfg0.N, win0_2.index t = ![t.val / 16, t.val % 16, 0] := by decide +kernel
/-- Its backward rows: which block. -/
theorem index3 : ∀ t : Fin cfg0.N, win0_3.index t = ![t.val / 16, t.val % 16, 0] := by decide +kernel
/-- Its gate: which block. -/
theorem index4 : ∀ t : Fin cfg0.N, win0_4.index t = ![t.val / 16, t.val % 16, 0] := by decide +kernel
/-- The attention branch's rows: which block. -/
theorem index5 : ∀ t : Fin cfg0.N, win0_5.index t = ![t.val / 16, t.val % 16, 0] := by decide +kernel
/-- The recurrent branch's forward rows: which block. -/
theorem index6 : ∀ t : Fin cfg0.N, win0_6.index t = ![t.val / 16, t.val % 16, 0] := by decide +kernel
/-- Its backward rows: which block. -/
theorem index7 : ∀ t : Fin cfg0.N, win0_7.index t = ![t.val / 16, t.val % 16, 0] := by decide +kernel
/-- Its output gate: which block. -/
theorem index8 : ∀ t : Fin cfg0.N, win0_8.index t = ![t.val / 16, t.val % 16, 7] := by decide +kernel
/-- Its second gate: which block. -/
theorem index9 : ∀ t : Fin cfg0.N, win0_9.index t = ![t.val / 16, t.val % 16, 8] := by decide +kernel
/-- The gates of the merge: which block. -/
theorem index10 : ∀ t : Fin cfg0.N, win0_10.index t = ![t.val / 16, t.val % 16, 3] := by decide +kernel
/-- The only block of an argument staged whole. -/
theorem index1 : ∀ t : Fin cfg0.N, win0_1.index t = ![0, 0] := by decide +kernel
/-- The only block of an argument staged whole. -/
theorem index11 : ∀ t : Fin cfg0.N, win0_11.index t = ![0, 0] := by decide +kernel
/-- The only block of an argument staged whole. -/
theorem index12 : ∀ t : Fin cfg0.N, win0_12.index t = ![0, 0] := by decide +kernel
/-- The only block of an argument staged whole. -/
theorem index13 : ∀ t : Fin cfg0.N, win0_13.index t = ![0, 0, 0] := by decide +kernel
/-- The only block of an argument staged whole. -/
theorem index14 : ∀ t : Fin cfg0.N, win0_14.index t = ![0, 0] := by decide +kernel
/-- The block of the output at a point. -/
theorem index15 : ∀ t : Fin cfg0.N, win0_15.index t = ![t.val / 16, t.val % 16, 0] := by decide +kernel

/-- No block of the output is cut. -/
theorem xsize0_15 : ∀ t : Fin cfg0.N, ∀ a, (cfg0.win 15).xsize (cfg0.grid.coords t) a = (cfg0.win 15).size a := by decide +kernel

/-- The grid has 64 points. -/
theorem lt_64 (t : Fin cfg0.N) : t.val < 64 := lt_of_lt_of_eq t.isLt (show cfg0.N = 64 from N_0)

/-- The sample of a point. -/
theorem coord0 : ∀ t : Fin cfg0.N, k0_off1 (grid0.coords t) = ![t.val / 16, 2048] := by decide +kernel
/-- The row block of a point. -/
theorem coord1 : ∀ t : Fin cfg0.N, (grid0.coords t 1).val = t.val % 16 := by decide +kernel

/-- The sample that a point works on. -/
abbrev smp (t : Fin cfg0.N) : Fin 4 := ⟨t.val / 16, by have := lt_64 t; omega⟩
/-- The row of the arguments that a point's row `r` is. -/
abbrev rw_ (t : Fin cfg0.N) (r : Fin 512) : Fin 8448 := ⟨t.val % 16 * 512 + r.val, by omega⟩

/-- The residual rows, at an index of a point's block. -/
theorem x_at (c : Dev nD) (t : Fin cfg0.N) (r : Fin 512) (l : Fin 1024) :
    X0_0 m c t (ix3 (n0 := 1) 0 r l)
      = m ((c : Thread nD τ).loc main_arg0) (ix3 (n0 := 4) (n1 := 8448) (n2 := 1024) (smp t) (rw_ t r) l) := by
  unfold X0_0 Pipeline.Window.fill
  rw [dif_pos (moved0_0 t _)]
  blk_simp [iblk]
  refine congrArg _ ?_
  blk_ext! [index0]

/-- The state space branch's forward rows, at an index of a point's block. -/
theorem yf_at (c : Dev nD) (t : Fin cfg0.N) (r : Fin 512) (l : Fin 1024) :
    X0_2 m c t (ix3 (n0 := 1) 0 r l)
      = m ((c : Thread nD τ).loc main_arg2) (ix3 (n0 := 4) (n1 := 8448) (n2 := 1024) (smp t) (rw_ t r) l) := by
  unfold X0_2 Pipeline.Window.fill
  rw [dif_pos (moved0_2 t _)]
  blk_simp [iblk]
  refine congrArg _ ?_
  blk_ext! [index2]

/-- Its backward rows, at an index of a point's block. -/
theorem yb_at (c : Dev nD) (t : Fin cfg0.N) (r : Fin 512) (l : Fin 1024) :
    X0_3 m c t (ix3 (n0 := 1) 0 r l)
      = m ((c : Thread nD τ).loc main_arg3) (ix3 (n0 := 4) (n1 := 8448) (n2 := 1024) (smp t) (rw_ t r) l) := by
  unfold X0_3 Pipeline.Window.fill
  rw [dif_pos (moved0_3 t _)]
  blk_simp [iblk]
  refine congrArg _ ?_
  blk_ext! [index3]

/-- Its gate, at an index of a point's block. -/
theorem zs_at (c : Dev nD) (t : Fin cfg0.N) (r : Fin 512) (l : Fin 1024) :
    X0_4 m c t (ix3 (n0 := 1) 0 r l)
      = m ((c : Thread nD τ).loc main_arg4) (ix3 (n0 := 4) (n1 := 8448) (n2 := 13824) (smp t) (rw_ t r) ⟨l.val, by omega⟩) := by
  unfold X0_4 Pipeline.Window.fill
  rw [dif_pos (moved0_4 t _)]
  blk_simp [iblk]
  refine congrArg _ ?_
  blk_ext! [index4]

/-- The attention branch's rows, at an index of a point's block. -/
theorem yd_at (c : Dev nD) (t : Fin cfg0.N) (r : Fin 512) (l : Fin 1024) :
    X0_5 m c t (ix3 (n0 := 1) 0 r l)
      = m ((c : Thread nD τ).loc main_arg5) (ix3 (n0 := 4) (n1 := 8448) (n2 := 1024) (smp t) (rw_ t r) l) := by
  unfold X0_5 Pipeline.Window.fill
  rw [dif_pos (moved0_5 t _)]
  blk_simp [iblk]
  refine congrArg _ ?_
  blk_ext! [index5]

/-- The recurrent branch's forward rows, at an index of a point's block. -/
theorem hf_at (c : Dev nD) (t : Fin cfg0.N) (r : Fin 512) (l : Fin 1024) :
    X0_6 m c t (ix3 (n0 := 1) 0 r l)
      = m ((c : Thread nD τ).loc main_arg6) (ix3 (n0 := 4) (n1 := 8448) (n2 := 1024) (smp t) (rw_ t r) l) := by
  unfold X0_6 Pipeline.Window.fill
  rw [dif_pos (moved0_6 t _)]
  blk_simp [iblk]
  refine congrArg _ ?_
  blk_ext! [index6]

/-- Its backward rows, at an index of a point's block. -/
theorem hb_at (c : Dev nD) (t : Fin cfg0.N) (r : Fin 512) (l : Fin 1024) :
    X0_7 m c t (ix3 (n0 := 1) 0 r l)
      = m ((c : Thread nD τ).loc main_arg7) (ix3 (n0 := 4) (n1 := 8448) (n2 := 1024) (smp t) (rw_ t r) l) := by
  unfold X0_7 Pipeline.Window.fill
  rw [dif_pos (moved0_7 t _)]
  blk_simp [iblk]
  refine congrArg _ ?_
  blk_ext! [index7]

/-- Its output gate, at an index of a point's block. -/
theorem mo_at (c : Dev nD) (t : Fin cfg0.N) (r : Fin 512) (l : Fin 1024) :
    X0_8 m c t (ix3 (n0 := 1) 0 r l)
      = m ((c : Thread nD τ).loc main_arg4) (ix3 (n0 := 4) (n1 := 8448) (n2 := 13824) (smp t) (rw_ t r) ⟨7168 + l.val, by omega⟩) := by
  unfold X0_8 Pipeline.Window.fill
  rw [dif_pos (moved0_8 t _)]
  blk_simp [iblk]
  refine congrArg _ ?_
  blk_ext! [index8]

/-- Its second gate, at an index of a point's block. -/
theorem mz_at (c : Dev nD) (t : Fin cfg0.N) (r : Fin 512) (l : Fin 1024) :
    X0_9 m c t (ix3 (n0 := 1) 0 r l)
      = m ((c : Thread nD τ).loc main_arg4) (ix3 (n0 := 4) (n1 := 8448) (n2 := 13824) (smp t) (rw_ t r) ⟨8192 + l.val, by omega⟩) := by
  unfold X0_9 Pipeline.Window.fill
  rw [dif_pos (moved0_9 t _)]
  blk_simp [iblk]
  refine congrArg _ ?_
  blk_ext! [index9]

/-- The gates of the merge, at an index of a point's block. -/
theorem gt_at (c : Dev nD) (t : Fin cfg0.N) (r : Fin 512) (l : Fin 3072) :
    X0_10 m c t (ix3 (n0 := 1) 0 r l)
      = m ((c : Thread nD τ).loc main_arg4) (ix3 (n0 := 4) (n1 := 8448) (n2 := 13824) (smp t) (rw_ t r) ⟨9216 + l.val, by omega⟩) := by
  unfold X0_10 Pipeline.Window.fill
  rw [dif_pos (moved0_10 t _)]
  blk_simp [iblk]
  refine congrArg _ ?_
  blk_ext! [index10]

/-- An argument staged whole. -/
theorem whole1 (c : Dev nD) (t : Fin cfg0.N) : iblk m c 1 t = m ((c : Thread nD τ).loc main_arg1) := by
  funext i
  blk_simp [iblk]
  refine congrArg _ ?_
  blk_ext! [index1]

/-- An argument staged whole. -/
theorem whole11 (c : Dev nD) (t : Fin cfg0.N) : iblk m c 11 t = m ((c : Thread nD τ).loc main_arg8) := by
  funext i
  blk_simp [iblk]
  refine congrArg _ ?_
  blk_ext! [index11]

/-- An argument staged whole. -/
theorem whole12 (c : Dev nD) (t : Fin cfg0.N) : iblk m c 12 t = m ((c : Thread nD τ).loc main_arg9) := by
  funext i
  blk_simp [iblk]
  refine congrArg _ ?_
  blk_ext! [index12]

/-- An argument staged whole. -/
theorem whole13 (c : Dev nD) (t : Fin cfg0.N) : iblk m c 13 t = m ((c : Thread nD τ).loc main_arg10) := by
  funext i
  blk_simp [iblk]
  refine congrArg _ ?_
  blk_ext! [index13]

/-- An argument staged whole. -/
theorem whole14 (c : Dev nD) (t : Fin cfg0.N) : iblk m c 14 t = m ((c : Thread nD τ).loc main_arg11) := by
  funext i
  blk_simp [iblk]
  refine congrArg _ ?_
  blk_ext! [index14]

/-! ## A point's output block -/

/-- A plane of the branch projections. -/
theorem plane_at (w : Vec Ideal S3x1024x1024 .bf16) (n : ℕ) (hn : n < 3) (inb) (l k : Fin 1024) :
    View.ld w (Rect.unit (s := S3x1024x1024) ![n, 0, 0] ![1, 1024, 1024] inb) (ix3 0 l k)
      = w (ix3 (n0 := 3) ⟨n, hn⟩ l k) := by
  refine View.ld_unit_apply_of _ _ _ _ _ _ fun a => ?_
  match a with
  | ⟨0, _⟩ => rfl
  | ⟨1, _⟩ => show l.val = 0 + l.val; omega
  | ⟨2, _⟩ => show k.val = 0 + k.val; omega

/-- The modulation row of a point's sample. -/
theorem mod_at (w : Vec Ideal S8x3072 .f32) (t : Fin cfg0.N) (inb) (j : Fin 1024) :
    View.ld w (Rect.unit (s := S8x3072) (k0_off1 (grid0.coords t)) ![1, 1024] inb) (ix2 0 j)
      = w (ix2 (n0 := 8) (n1 := 3072) ⟨(smp t).val, by omega⟩ ⟨2048 + j.val, by omega⟩) := by
  refine View.ld_unit_apply_of _ _ _ _ _ _ fun a => Eq.trans ?_ (congrArg (· + (ix2 (n0 := 1) (n1 := 1024) 0 j a).val) (congrFun (coord0 t) a).symm)
  match a with
  | ⟨0, _⟩ => rfl
  | ⟨1, _⟩ => rfl

/-- What a point leaves in its output block, from the arguments. -/
theorem point_at (c : Dev nD) (t : Fin cfg0.N) (r : Fin 512) (j : Fin 1024) :
    outsAt0 m c t (ix3 0 r j)
      = merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (smp t) (rw_ t r) j := by
  unfold outsAt0
  frame_out
  rw [pay1_apply, coord1, pay12_apply _ (by omega), mod_at, pay11_apply]
  simp only [pay2_apply, pay4_apply, pay3_apply, pay9_apply, pay5_apply, pay10_apply, sgk_eq]
  have e_x : ∀ l, X0_0 m c t (ix3 (n0 := 1) (n1 := 512) (n2 := 1024) 0 r l) = _ := x_at m c t r
  have e_yf : ∀ l, X0_2 m c t (ix3 (n0 := 1) (n1 := 512) (n2 := 1024) 0 r l) = _ := yf_at m c t r
  have e_yb : ∀ l, X0_3 m c t (ix3 (n0 := 1) (n1 := 512) (n2 := 1024) 0 r l) = _ := yb_at m c t r
  have e_zs : ∀ l, X0_4 m c t (ix3 (n0 := 1) (n1 := 512) (n2 := 1024) 0 r l) = _ := zs_at m c t r
  have e_yd : ∀ l, X0_5 m c t (ix3 (n0 := 1) (n1 := 512) (n2 := 1024) 0 r l) = _ := yd_at m c t r
  have e_hf : ∀ l, X0_6 m c t (ix3 (n0 := 1) (n1 := 512) (n2 := 1024) 0 r l) = _ := hf_at m c t r
  have e_hb : ∀ l, X0_7 m c t (ix3 (n0 := 1) (n1 := 512) (n2 := 1024) 0 r l) = _ := hb_at m c t r
  have e_mo : ∀ l, X0_8 m c t (ix3 (n0 := 1) (n1 := 512) (n2 := 1024) 0 r l) = _ := mo_at m c t r
  have e_mz : ∀ l, X0_9 m c t (ix3 (n0 := 1) (n1 := 512) (n2 := 1024) 0 r l) = _ := mz_at m c t r
  have e_gt : ∀ l, X0_10 m c t (ix3 (n0 := 1) (n1 := 512) (n2 := 3072) 0 r l) = _ := gt_at m c t r
  simp only [e_x, e_yf, e_yb, e_zs, e_yd, e_hf, e_hb, e_mo, e_mz, e_gt, whole1 m c t, whole11 m c t, whole12 m c t, whole13 m c t, whole14 m c t]
  refine congrArg₂ (· + ·) rfl (congrArg₂ (· * ·) rfl (Finset.sum_congr rfl fun k _ => congrArg (· * _) ?_))
  refine congrArg₂ (· + ·) (congrArg₂ (· + ·) ?_ ?_) ?_
  · exact congrArg (fun z : EReal => sg _ * z) (Finset.sum_congr rfl fun l _ => congrArg (fun z : EReal => (_ : EReal) * z) (plane_at _ 0 (by omega) _ l k))
  · exact congrArg (fun z : EReal => sg _ * z) (Finset.sum_congr rfl fun l _ => congrArg (fun z : EReal => (_ : EReal) * z) (plane_at _ 1 (by omega) _ l k))
  · exact congrArg (fun z : EReal => sg _ * z) (Finset.sum_congr rfl fun l _ => congrArg (fun z : EReal => (_ : EReal) * z) (plane_at _ 2 (by omega) _ l k))

/-- The layer's output at equal indices. -/
theorem merged_congr (x : Act.Idx → EReal) (mod : (⟨2, ![8, 3072]⟩ : Shape).Idx → EReal) (yf yb : Act.Idx → EReal)
    (p : Big.Idx → EReal) (yd hf hb : Act.Idx → EReal) (sng mng : Scale.Idx → EReal)
    (wb : (⟨3, ![3, 1024, 1024]⟩ : Shape).Idx → EReal) (wo : (⟨2, ![1024, 1024]⟩ : Shape).Idx → EReal)
    {b b' : Fin 4} {R R' : Fin 8448} {j j' : Fin 1024} (h : b = b') (hR : R = R') (hj : j = j') :
    merged x mod yf yb p yd hf hb sng mng wb wo b R j = merged x mod yf yb p yd hf hb sng mng wb wo b' R' j' := by
  rw [h, hR, hj]

/-- The output array after the run, at an index. -/
theorem array_at (c : Dev nD) (i : S4x8192x1024.Idx) :
    (dats m 0 c).arrAt 15 cfg0.N i
      = merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (i 0) ⟨(i 1).val, by have : (i 1).val < 8192 := (i 1).isLt; omega⟩ (i 2) := by
  have hi : (i 1).val < 8192 := (i 1).isLt
  refine ((dats m 0 c).arrAt_apply_of_coversWhere 15
    (fun i : S4x8192x1024.Idx =>
      merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (i 0) ⟨(i 1).val, by have : (i 1).val < 8192 := (i 1).isLt; omega⟩ (i 2))
    (P := fun i : S4x8192x1024.Idx => (i 1).val / 512 < 16) (fun β => β (1 : Fin 3) < 16) (by decide +kernel)
    (fun t hf y => ?_) (fun j => Iff.rfl) i).trans (if_pos (by show (i 1).val / 512 < 16; omega))
  blk_simp
  rw [after0_15]
  have hy0 : (y 0).val < 1 := lt_of_lt_of_eq (y 0).isLt (xsize0_15 t 0)
  have hy1 : (y 1).val < 512 := lt_of_lt_of_eq (y 1).isLt (xsize0_15 t 1)
  have hy2 : (y 2).val < 1024 := lt_of_lt_of_eq (y 2).isLt (xsize0_15 t 2)
  have hx : (cfg0.win 15).xinj (cfg0.grid.coords t) y
      = ix3 (n0 := 1) (n1 := 512) (n2 := 1024) 0 ⟨(y 1).val, hy1⟩ ⟨(y 2).val, hy2⟩ := by
    funext a
    refine Fin.ext ?_
    match a with
    | ⟨0, _⟩ => show (y 0).val = 0; omega
    | ⟨1, _⟩ => rfl
    | ⟨2, _⟩ => rfl
  refine (congrArg (outsAt0 m c t) hx).trans ?_
  refine (point_at m c t _ _).trans ?_
  have hb : smp t = (win0_15.blk t).view.emb y 0 :=
    Fin.ext (by blk_simp [index15])
  have hr : t.val % 16 * 512 + (y 1).val = win0_15.index t 1 * 512 + (y 1).val := by rw [index15]; rfl
  have hc : (⟨(y 2).val, hy2⟩ : Fin 1024) = (win0_15.blk t).view.emb y 2 :=
    Fin.ext (by blk_simp [index15])
  exact merged_congr _ _ _ _ _ _ _ _ _ _ _ _ hb (Fin.ext hr) hc

end Cert.MergeIdeal.MergeValue

end
-- ==== Proof.Merge.Reference.lean ====
/- The merge reference read at one index, over the extended reals. -/
module

public import proofs.«01_k».proof.Proof.Gen.MergeRefIdeal.Read
public import proofs.«01_k».proof.Proof.Merge.Layer
public import Idealize.ShloMosaic.Lib.Pointwise
public import Idealize.ShloMosaic.Lib.IdealHost

@[expose] public section

set_option maxRecDepth 16384

noncomputable section

namespace Cert.MergeRefIdeal.Read

open Cert.MergeRefIdeal Cert.MergeRefIdeal.Gen Cert.Merging Idealize.ShloMosaic

/-- The state space branch before its norm. -/
theorem ssm_at (a2 a3 : FVec Ideal S4x8448x1024 .bf16) (a4 : FVec Ideal S4x8448x13824 .bf16) (b : Fin 4) (row : Fin 8192)
    (l : Fin 1024) :
    val_main_v13 (F := Ideal) a2 a3 a4 (ix3 b row l) = ssm a2 a3 a4 b ⟨row.val, by omega⟩ l := by
  unfold ssm sg
  pointwise [val_main_v13, val_main_v12, val_main_v11, val_main_v10, val_main_v9, val_main_v8, val_main_v7, val_main_v6,
    val_main_v5, val_main_call0_v5, val_main_call0_v4, val_main_call0_v3, val_main_call0_v2, val_main_call0_v1,
    val_main_call0_v0, val_main_call0_cst, val_main_call0_cst_0]

/-- The state space branch. -/
theorem branchA_at (a2 a3 : FVec Ideal S4x8448x1024 .bf16) (a4 : FVec Ideal S4x8448x13824 .bf16) (a8 : FVec Ideal S1x1024 .f32)
    (b : Fin 4) (row : Fin 8192) (k : Fin 1024) :
    val_main_v27 (F := Ideal) a2 a3 a4 a8 (ix3 b row k) = branchA a2 a3 a4 a8 b ⟨row.val, by omega⟩ k := by
  unfold branchA rms
  simp only [← ssm_at]
  unfold val_main_v27 val_main_v24 val_main_v23 val_main_v22 val_main_v21 val_main_v19 val_main_v17 val_main_v16 val_main_v15
  generalize val_main_v13 (F := Ideal) a2 a3 a4 = y
  pointwise [val_main_v26, val_main_v25, val_main_v20, val_main_v18, val_main_v14, val_main_cst, val_main_cst_0, val_main_cst_1]

/-- The recurrent branch before its norm: lane `l` is lane `l mod 256` of head `l / 256`. -/
theorem recur_at (a4 : FVec Ideal S4x8448x13824 .bf16) (a6 a7 : FVec Ideal S4x8448x1024 .bf16) (b : Fin 4) (row : Fin 8192)
    (h : Fin 4) (l : Fin 256) :
    val_main_v43 (F := Ideal) a4 a6 a7 (ix4 b row h l) = recur a6 a7 a4 b ⟨row.val, by omega⟩ ⟨256 * h.val + l.val, by omega⟩ := by
  unfold recur sg
  pointwise [val_main_v43, val_main_v42, val_main_v41, val_main_v40, val_main_v39, val_main_v38, val_main_v37, val_main_v36,
    val_main_v35, val_main_v34, val_main_v33, val_main_v32, val_main_v31, val_main_v30, val_main_v29, val_main_v28,
    val_main_cst_2, val_main_cst_3]
  simp only [Nat.mul_comm h.val 256]

/-- The recurrent branch. -/
theorem branchC_at (a4 : FVec Ideal S4x8448x13824 .bf16) (a6 a7 : FVec Ideal S4x8448x1024 .bf16) (a9 : FVec Ideal S1x1024 .f32)
    (b : Fin 4) (row : Fin 8192) (k : Fin 1024) :
    val_main_v62 (F := Ideal) a4 a6 a7 a9 (ix3 b row k) = branchC a6 a7 a4 a9 b ⟨row.val, by omega⟩ k := by
  unfold branchC rms
  have e : (⟨256 * (k.val / 256) + k.val % 256, by omega⟩ : Fin 1024) = k := Fin.ext (by show 256 * (k.val / 256) + k.val % 256 = k.val; omega)
  have hk : recur a6 a7 a4 b ⟨row.val, by omega⟩ k
      = val_main_v43 (F := Ideal) a4 a6 a7 (ix4 b row ⟨k.val / 256, by omega⟩ ⟨k.val % 256, by omega⟩) := by
    rw [recur_at]; exact congrArg _ e.symm
  have hl : ∀ l : Fin 256, recur a6 a7 a4 b ⟨row.val, by omega⟩ ⟨256 * (k.val / 256) + l.val, by omega⟩
      = val_main_v43 (F := Ideal) a4 a6 a7 (ix4 b row ⟨k.val / 256, by omega⟩ l) := fun l =>
    (recur_at a4 a6 a7 b row ⟨k.val / 256, by omega⟩ l).symm
  simp only [hl]
  rw [hk]
  unfold val_main_v62 val_main_v58 val_main_v57 val_main_v54 val_main_v53 val_main_v52 val_main_v51 val_main_v49 val_main_v47
    val_main_v46 val_main_v45 sg
  generalize val_main_v43 (F := Ideal) a4 a6 a7 = y
  pointwise [val_main_v61, val_main_v60, val_main_v59, val_main_call1_v5, val_main_call1_v4, val_main_call1_v3,
    val_main_call1_v2, val_main_call1_v1, val_main_call1_v0, val_main_call1_cst, val_main_call1_cst_0, val_main_v56,
    val_main_v55, val_main_v50, val_main_v48, val_main_v44, val_main_cst_4, val_main_cst_5, val_main_cst_6]

/-- A gate of the merge. -/
theorem gate_at (a4 : FVec Ideal S4x8448x13824 .bf16) (b : Fin 4) (row : Fin 8192) (n : Fin 3) (k : Fin 1024) :
    val_main_v71 (F := Ideal) a4 (ix4 b row n k)
      = sg (a4 (ix3 b ⟨row.val, by omega⟩ ⟨9216 + (1024 * n.val + k.val), by omega⟩)) := by
  unfold sg
  pointwise [val_main_v71, val_main_v70, val_main_v69, val_main_v68, val_main_v67, val_main_v66, val_main_v65, val_main_v64,
    val_main_v63, val_main_cst_7, val_main_cst_8]
  simp only [Nat.mul_comm n.val 1024]

/-- The three branches projected and merged. -/
theorem mixed_at (a2 a3 : FVec Ideal S4x8448x1024 .bf16) (a4 : FVec Ideal S4x8448x13824 .bf16)
    (a5 a6 a7 : FVec Ideal S4x8448x1024 .bf16) (a8 a9 : FVec Ideal S1x1024 .f32) (a10 : FVec Ideal S3x1024x1024 .bf16)
    (b : Fin 4) (row : Fin 8192) (k : Fin 1024) :
    val_main_v94 (F := Ideal) a2 a3 a4 a5 a6 a7 a8 a9 a10 (ix3 b row k)
      = mixed a2 a3 a4 a5 a6 a7 a8 a9 a10 b ⟨row.val, by omega⟩ k := by
  have g0 : sg (a4 (ix3 b ⟨row.val, by omega⟩ ⟨9216 + k.val, by omega⟩)) = val_main_v71 (F := Ideal) a4 (ix4 b row 0 k) := by
    rw [gate_at]; exact congrArg (fun z => sg (a4 (ix3 b _ z))) (Fin.ext (by show 9216 + k.val = 9216 + (1024 * 0 + k.val); omega))
  have g1 : sg (a4 (ix3 b ⟨row.val, by omega⟩ ⟨9216 + (1024 + k.val), by omega⟩)) = val_main_v71 (F := Ideal) a4 (ix4 b row 1 k) := by
    rw [gate_at]; exact congrArg (fun z => sg (a4 (ix3 b _ z))) (Fin.ext (by show 9216 + (1024 + k.val) = 9216 + (1024 * 1 + k.val); omega))
  have g2 : sg (a4 (ix3 b ⟨row.val, by omega⟩ ⟨9216 + (2048 + k.val), by omega⟩)) = val_main_v71 (F := Ideal) a4 (ix4 b row 2 k) := by
    rw [gate_at]; exact congrArg (fun z => sg (a4 (ix3 b _ z))) (Fin.ext (by show 9216 + (2048 + k.val) = 9216 + (1024 * 2 + k.val); omega))
  unfold mixed
  rw [g0, g1, g2]
  simp only [← branchA_at, ← branchC_at]
  unfold val_main_v94 val_main_v93 val_main_v92 val_main_v89 val_main_v88 val_main_v87 val_main_v86 val_main_v85 val_main_v80
    val_main_v79 val_main_v78 val_main_v77 val_main_v74 val_main_v73
  generalize val_main_v27 (F := Ideal) a2 a3 a4 a8 = yA
  generalize val_main_v62 (F := Ideal) a4 a6 a7 a9 = yC
  generalize val_main_v71 (F := Ideal) a4 = g
  pointwise [val_main_v91, val_main_v90, val_main_v84, val_main_v83, val_main_v82, val_main_v81, val_main_v76, val_main_v75,
    val_main_v72]

/-- The reference's result. -/
theorem merged_at (a0 : FVec Ideal S4x8448x1024 .f32) (a1 : FVec Ideal S8x3072 .f32) (a2 a3 : FVec Ideal S4x8448x1024 .bf16)
    (a4 : FVec Ideal S4x8448x13824 .bf16) (a5 a6 a7 : FVec Ideal S4x8448x1024 .bf16) (a8 a9 : FVec Ideal S1x1024 .f32)
    (a10 : FVec Ideal S3x1024x1024 .bf16) (a11 : FVec Ideal S1024x1024 .bf16) (b : Fin 4) (row : Fin 8192) (j : Fin 1024) :
    val_main_v100 (F := Ideal) a0 a1 a2 a3 a4 a5 a6 a7 a8 a9 a10 a11 (ix3 b row j)
      = merged a0 a1 a2 a3 a4 a5 a6 a7 a8 a9 a10 a11 b ⟨row.val, by omega⟩ j := by
  unfold merged
  simp only [← mixed_at]
  unfold val_main_v100 val_main_v99 val_main_v97
  generalize val_main_v94 (F := Ideal) a2 a3 a4 a5 a6 a7 a8 a9 a10 = y
  pointwise [val_main_v98, val_main_v96, val_main_v95, val_main_v4, val_main_v3, val_main_v0]

end Cert.MergeRefIdeal.Read

end
-- ==== Proof.Merge.Claims.lean ====
/- The claims about the merge call: its two frames, the reference's frame, the named constant, and the equality of the call's
   output and the reference's result. -/
module

public import proofs.«01_k».proof.Defs
public import proofs.«01_k».proof.Proof.Merge.Array
public import proofs.«01_k».proof.Proof.Merge.Reference
public import proofs.«01_k».proof.Proof.Gen.Merge.Frame
public import proofs.«01_k».proof.Proof.Gen.MergeIdeal.Value
public import proofs.«01_k».proof.Proof.Gen.MergeRefIdeal.Run
public import Idealize.ShloMosaic.Lib.Quiescent

@[expose] public section

set_option maxRecDepth 16384

noncomputable section

namespace Cert.Merging

open Idealize.ShloMosaic Idealize.SL.Sem

/-- The merge call as printed runs, keeps its arguments and leaves every counter at zero. -/
theorem frame_p : Cert.quiescent_Merge := fun m ρ _ => Cert.Merge.Gen.frame m ρ

/-- So does its idealization. -/
theorem frame_pi : Cert.quiescent_MergeIdeal := fun m ρ _ => Cert.MergeIdeal.Gen.frame m ρ

/-- The reference of the merge runs, keeps its arguments and leaves every counter at zero. -/
theorem frame_ri : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The named constant is minus the logarithm of `e` to the base two, that is minus the inverse of the logarithm of two. -/
theorem preserves : Cert.preserves_Merge_MergeIdeal :=
  IdealRules.named_const.statement Cert.MergeIdeal.κ "neg_log2e" .f32 0xBFB8AA3B#32 ((-((Real.log 2)⁻¹) : ℝ) : EReal) rfl

/-- The call's output and the reference's result are equal at every index. -/
theorem algebraic : Cert.algebraic_MergeIdeal_MergeRefIdeal := by
  intro m ρ m' ρ' _ hagree
  refine ⟨fun c => (Cert.MergeIdeal.Gen.dats m 0 c).arrAt 15 Cert.MergeIdeal.cfg0.N, ?_, ?_⟩
  · exact Cert.MergeIdeal.Value.run_blocks (F := Ideal) m ρ
  · refine (θ_run Cert.MergeRefIdeal.defs _ _).mono (fun r h c => ⟨funext fun i => ?_, (h c).2⟩)
      (Cert.MergeRefIdeal.Value.run (F := Ideal) m' ρ')
    obtain ⟨e0, e1, e2, e3, e4, e5, e6, e7, e8, e9, e10, e11⟩ := hagree c
    rw [congrFun (h c).1 i, Cert.MergeRefIdeal.Read.val_main_v100_eq, e0, e1, e2, e3, e4, e5, e6, e7, e8, e9, e10, e11]
    refine Eq.trans ?_ (Cert.MergeIdeal.MergeValue.array_at m c i).symm
    refine Eq.trans ?_ (Cert.MergeRefIdeal.Read.merged_at _ _ _ _ _ _ _ _ _ _ _ _ (i 0) (i 1) (i 2))
    exact congrArg _ (eq_ix3 i)

end Cert.Merging

end
-- ==== Proof.MergeAll.Layer.lean ====
/- The merge of all the rows of a layer as a function of its arguments, over the extended reals. -/
module

public import proofs.«01_k».proof.Proof.InProj.Layer

@[expose] public section

set_option maxRecDepth 16384

noncomputable section

namespace Cert.MergingAll

open Idealize.ShloMosaic Cert.Merging Cert.Projection

/-- The layer's output: the residual plus the output projection, gated by the modulation row of the row. -/
def mergedAll (x : Act.Idx → EReal) (mod : (⟨2, ![8, 3072]⟩ : Shape).Idx → EReal) (yf yb : Act.Idx → EReal) (p : Big.Idx → EReal)
    (yd hf hb : Act.Idx → EReal) (sng mng : Scale.Idx → EReal) (wb : (⟨3, ![3, 1024, 1024]⟩ : Shape).Idx → EReal)
    (wo : (⟨2, ![1024, 1024]⟩ : Shape).Idx → EReal) (b : Fin 4) (row : Fin 8448) (j : Fin 1024) : EReal :=
  x (ix3 b row j) + mod (ix2 (mrow b row) ⟨2048 + j.val, by omega⟩)
    * ∑ k : Fin 1024, mixed yf yb p yd hf hb sng mng wb b row k * wo (ix2 k j)

end Cert.MergingAll

end
-- ==== Proof.MergeAll.Payloads.lean ====
/- The values the body of the merge of all the rows computes, read at one index over the extended reals. -/
module

public import proofs.«01_k».proof.Proof.Gen.MergeAllIdeal.Skeleton
public import proofs.«01_k».proof.Proof.MergeAll.Layer
public import Idealize.ShloMosaic.Lib.Pointwise
public import Idealize.ShloMosaic.Lib.ValueIdx
public import Idealize.ShloMosaic.Lib.WordCmp

@[expose] public section

set_option maxRecDepth 16384

noncomputable section

namespace Cert.MergeAllIdeal.MergeValue

open Cert.MergeAllIdeal Cert.MergeAllIdeal.Gen Cert.Merging Idealize.ShloMosaic

/-- The named constant the kernel multiplies by before its exponential is `-1 / log 2`. -/
theorem neg_log2e :
    Named.named (F := Ideal) Cert.MergeAllIdeal.κ "neg_log2e" (φ := .f32) 0xBFB8AA3B#32 = ((-((Real.log 2)⁻¹) : ℝ) : EReal) :=
  IdealRules.named_const.ideal_named_scalar _ _ _ _ rfl

/-- The output block as stored: the residual plus the gated projection. -/
theorem pay1_apply (o g : FVec Ideal S384x1024 .f32) (x : Vec Ideal S1x384x1024 .f32) (r : Fin 384) (j : Fin 1024) :
    k0_pay1 (F := Ideal) o g x (ix3 0 r j) = x (ix3 0 r j) + g (ix2 r j) * o (ix2 r j) := by
  pointwise [k0_pay1]

/-- The attention branch's projection. -/
theorem pay2_apply (x : Vec Ideal S1x384x1024 .bf16) (w : Vec Ideal S1x1024x1024 .bf16) (r : Fin 384) (j : Fin 1024) :
    k0_pay2 (F := Ideal) x w (ix2 r j) = ∑ k : Fin 1024, x (ix3 0 r k) * w (ix3 0 k j) := by
  pointwise [k0_pay2]

/-- The state space branch: its two directions summed, gated and normalised. -/
theorem pay3_apply (f b z : Vec Ideal S1x384x1024 .bf16) (r : Fin 384) (j : Fin 1024) :
    k0_pay3 (F := Ideal) f b z (ix2 r j)
      = rms 0x44800000#32 (fun l : Fin 1024 => (f (ix3 0 r l) + b (ix3 0 r l)) * (z (ix3 0 r l) * sgk (z (ix3 0 r l))))
          ((f (ix3 0 r j) + b (ix3 0 r j)) * (z (ix3 0 r j) * sgk (z (ix3 0 r j)))) := by
  unfold rms sgk
  pointwise [k0_pay3]
  simp only [neg_log2e]
  rfl

/-- Its projection. -/
theorem pay4_apply (y : FVec Ideal S384x1024 .f32) (g : Vec Ideal S1x1024 .f32) (w : Vec Ideal S1x1024x1024 .bf16)
    (r : Fin 384) (j : Fin 1024) :
    k0_pay4 (F := Ideal) y g w (ix2 r j) = ∑ k : Fin 1024, y (ix2 r k) * g (ix2 0 k) * w (ix3 0 k j) := by
  pointwise [k0_pay4]

/-- The recurrent branch: its two directions summed and gated. -/
theorem pay5_apply (f b o : Vec Ideal S1x384x1024 .bf16) (r : Fin 384) (j : Fin 1024) :
    k0_pay5 (F := Ideal) f b o (ix2 r j) = (f (ix3 0 r j) + b (ix3 0 r j)) * sgk (o (ix3 0 r j)) := by
  unfold sgk
  pointwise [k0_pay5]
  simp only [neg_log2e]
  rfl

/-- The SiLU of the recurrent branch's gate. -/
theorem pay10_apply (z : Vec Ideal S1x384x1024 .bf16) (r : Fin 384) (j : Fin 1024) :
    k0_pay10 (F := Ideal) z (ix2 r j) = z (ix3 0 r j) * sgk (z (ix3 0 r j)) := by
  unfold sgk
  pointwise [k0_pay10]
  simp only [neg_log2e]
  rfl

/-- The merge of the three branches by the sigmoid gates, and the output projection. -/
theorem pay11_apply (pd pa yc sz : FVec Ideal S384x1024 .f32) (g : Vec Ideal S1x384x3072 .bf16)
    (w : Vec Ideal S1x1024x1024 .bf16) (wo : Vec Ideal S1024x1024 .bf16) (r : Fin 384) (j : Fin 1024) :
    k0_pay11 (F := Ideal) pd pa yc sz g w wo (ix2 r j)
      = ∑ k : Fin 1024,
          (sgk (g (ix3 0 r ⟨k.val, by omega⟩)) * pa (ix2 r k) + sgk (g (ix3 0 r ⟨1024 + k.val, by omega⟩)) * pd (ix2 r k)
            + sgk (g (ix3 0 r ⟨2048 + k.val, by omega⟩)) * ∑ l : Fin 1024, yc (ix2 r l) * sz (ix2 r l) * w (ix3 0 l k))
          * wo (ix2 k j) := by
  unfold sgk
  pointwise [k0_pay11]
  simp only [neg_log2e]
  rfl

/-- The comparison that tells a context row of row block `i`. -/
theorem is_context (i r : ℕ) (hi : i < 22) (hr : r < 384) :
    IntOp.cmpi CmpIPredicate.sge (IntOp.addi (Scalar.muli (BitVec.ofNat 32 i) 384#32) (BitVec.ofNat 32 r)) 8192#32
      = if 8192 ≤ i * 384 + r then 1#1 else 0#1 := by
  have e : IntOp.addi (Scalar.muli (BitVec.ofNat 32 i) 384#32) (BitVec.ofNat 32 r) = BitVec.ofNat 32 (i * 384 + r) := by
    show BitVec.ofNat 32 i * BitVec.ofNat 32 384 + BitVec.ofNat 32 r = _
    rw [← BitVec.ofNat_mul, ← BitVec.ofNat_add]
  rw [e, WordCmp.cmpi_sge_ofNat (by omega) (by omega)]
  by_cases h : 8192 ≤ i * 384 + r
  · rw [if_pos h, decide_eq_true h]; rfl
  · rw [if_neg h, decide_eq_false h]; rfl

/-- The gate of the residual of row block `i`: from `u` for a context row, from `v` for a latent one. -/
theorem pay12_apply (i : ℕ) (hi : i < 22) (u v : Vec Ideal S1x1024 .f32) (r : Fin 384) (j : Fin 1024) :
    k0_pay12 (F := Ideal) (BitVec.ofNat 32 i) u v (ix2 r j) = (if 8192 ≤ i * 384 + r.val then u else v) (ix2 0 j) := by
  pointwise [k0_pay12]
  rw [is_context i r.val hi r.isLt]
  by_cases h : 8192 ≤ i * 384 + r.val
  · simp only [if_pos h]; rfl
  · simp only [if_neg h]; rfl

/-- The recurrent branch's four heads of 256 lanes normalised, at one lane. -/
theorem pay9_apply (f b o : Vec Ideal S1x384x1024 .bf16) (g : Vec Ideal S1x1024 .f32) (r : Fin 384) (j : Fin 1024) :
    k0_pay9 (F := Ideal) (k0_pay5 f b o) (k0_pay6 f b o) (k0_pay7 f b o) (k0_pay8 f b o) g (ix2 r j)
      = rms 0x43800000#32 (fun l : Fin 256 => k0_pay5 (F := Ideal) f b o (ix2 r ⟨256 * (j.val / 256) + l.val, by omega⟩))
          (k0_pay5 (F := Ideal) f b o (ix2 r j)) * g (ix2 0 j) := by
  unfold rms
  pointwise [k0_pay9, k0_pay6, k0_pay7, k0_pay8]
  generalize k0_pay5 (F := Ideal) f b o = p
  refine congrArg (· * g (ix2 0 j)) ?_
  have key : ∀ (o' : ℕ) (jj : Fin 1024) (hs : ∀ x : Fin 256, o' + x.val < 1024), jj = j → o' = 256 * (j.val / 256) →
      p (ix2 r jj) * Ideal.rsqrt (Ideal.div
          (∑ x : Fin 256, p (ix2 r ⟨o' + x.val, hs x⟩) * p (ix2 r ⟨o' + x.val, hs x⟩))
          (Ideal.ofBits .f32 0x43800000#32) + Ideal.ofBits .f32 0x358637BD#32)
        = p (ix2 r j) * Ideal.rsqrt (Ideal.div
          (∑ x : Fin 256, p (ix2 r ⟨256 * (j.val / 256) + x.val, by omega⟩)
            * p (ix2 r ⟨256 * (j.val / 256) + x.val, by omega⟩))
          (Ideal.ofBits .f32 0x43800000#32) + Ideal.ofBits .f32 0x358637BD#32) := by
    rintro o' jj hs rfl rfl
    rfl
  have hj := j.isLt
  by_cases h0 : j.val < 256
  · rw [dif_pos h0]
    simpa only [Nat.zero_add] using key 0 j (fun x => by omega) rfl (by omega)
  rw [dif_neg h0]
  by_cases h1 : j.val - 256 < 256
  · rw [dif_pos h1]
    exact key 256 ⟨256 + (j.val - 256), by omega⟩ (fun x => by omega) (Fin.ext (by show 256 + (j.val - 256) = j.val; omega)) (by omega)
  rw [dif_neg h1]
  by_cases h2 : j.val - 256 - 256 < 256
  · rw [dif_pos h2]
    exact key 512 ⟨512 + (j.val - 256 - 256), by omega⟩ (fun x => by omega) (Fin.ext (by show 512 + (j.val - 256 - 256) = j.val; omega)) (by omega)
  · rw [dif_neg h2]
    exact key 768 ⟨768 + (j.val - 256 - 256 - 256), by omega⟩ (fun x => by omega)
      (Fin.ext (by show 768 + (j.val - 256 - 256 - 256) = j.val; omega)) (by omega)

end Cert.MergeAllIdeal.MergeValue

end
-- ==== Proof.MergeAll.Array.lean ====
/- The output array of the merge of all the rows at an index, as one function of the call's arguments: the blocks of the grid's points put
   together. -/
module

public import proofs.«01_k».proof.Proof.MergeAll.Payloads
public import proofs.«01_k».proof.Proof.Gen.MergeAllIdeal.Value
public import Idealize.ShloMosaic.Lib.Pipeline.ValueKit.Tiles
public import Idealize.ShloMosaic.Lib.Pipeline.ValueKit.Partial
public import Idealize.ShloMosaic.Lib.Pipeline.ValueKit.Point

@[expose] public section

set_option maxRecDepth 16384

noncomputable section

namespace Cert.MergeAllIdeal.MergeValue

open Cert.MergeAllIdeal Cert.MergeAllIdeal.Gen Cert.Merging Cert.MergingAll Cert.Projection Idealize.ShloMosaic Idealize.ShloMosaic.TcCoe Idealize.SL.Sem
open Idealize.ShloMosaic.Tactic
open Idealize.ShloMosaic.Pipeline (Dat)

variable (m : (ℓ : Loc nD τ sig) → Buf (Elt Ideal) ℓ)

/-! ## Where the blocks lie -/

/-- The residual rows: which block. -/
theorem index0 : ∀ t : Fin cfg0.N, win0_0.index t = ![t.val / 22, t.val % 22, 0] := by decide +kernel
/-- The state space branch's forward rows: which block. -/
theorem index2 : ∀ t : Fin cfg0.N, win0_2.index t = ![t.val / 22, t.val % 22, 0] := by decide +kernel
/-- Its backward rows: which block. -/
theorem index3 : ∀ t : Fin cfg0.N, win0_3.index t = ![t.val / 22, t.val % 22, 0] := by decide +kernel
/-- Its gate: which block. -/
theorem index4 : ∀ t : Fin cfg0.N, win0_4.index t = ![t.val / 22, t.val % 22, 0] := by decide +kernel
/-- The attention branch's rows: which block. -/
theorem index5 : ∀ t : Fin cfg0.N, win0_5.index t = ![t.val / 22, t.val % 22, 0] := by decide +kernel
/-- The recurrent branch's forward rows: which block. -/
theorem index6 : ∀ t : Fin cfg0.N, win0_6.index t = ![t.val / 22, t.val % 22, 0] := by decide +kernel
/-- Its backward rows: which block. -/
theorem index7 : ∀ t : Fin cfg0.N, win0_7.index t = ![t.val / 22, t.val % 22, 0] := by decide +kernel
/-- Its output gate: which block. -/
theorem index8 : ∀ t : Fin cfg0.N, win0_8.index t = ![t.val / 22, t.val % 22, 7] := by decide +kernel
/-- Its second gate: which block. -/
theorem index9 : ∀ t : Fin cfg0.N, win0_9.index t = ![t.val / 22, t.val % 22, 8] := by decide +kernel
/-- The gates of the merge: which block. -/
theorem index10 : ∀ t : Fin cfg0.N, win0_10.index t = ![t.val / 22, t.val % 22, 3] := by decide +kernel
/-- The only block of an argument staged whole. -/
theorem index1 : ∀ t : Fin cfg0.N, win0_1.index t = ![0, 0] := by decide +kernel
/-- The only block of an argument staged whole. -/
theorem index11 : ∀ t : Fin cfg0.N, win0_11.index t = ![0, 0] := by decide +kernel
/-- The only block of an argument staged whole. -/
theorem index12 : ∀ t : Fin cfg0.N, win0_12.index t = ![0, 0] := by decide +kernel
/-- The only block of an argument staged whole. -/
theorem index13 : ∀ t : Fin cfg0.N, win0_13.index t = ![0, 0, 0] := by decide +kernel
/-- The only block of an argument staged whole. -/
theorem index14 : ∀ t : Fin cfg0.N, win0_14.index t = ![0, 0] := by decide +kernel
/-- The block of the output at a point. -/
theorem index15 : ∀ t : Fin cfg0.N, win0_15.index t = ![t.val / 22, t.val % 22, 0] := by decide +kernel

/-- No block of the output is cut. -/
theorem xsize0_15 : ∀ t : Fin cfg0.N, ∀ a, (cfg0.win 15).xsize (cfg0.grid.coords t) a = (cfg0.win 15).size a := by decide +kernel

/-- The grid has 88 points. -/
theorem lt_88 (t : Fin cfg0.N) : t.val < 88 := lt_of_lt_of_eq t.isLt (show cfg0.N = 88 from N_0)

/-- The sample of a point. -/
theorem coord0 : ∀ t : Fin cfg0.N, k0_off1 (grid0.coords t) = ![t.val / 22, 2048] := by decide +kernel
/-- The row block of a point. -/
theorem coord1 : ∀ t : Fin cfg0.N, (grid0.coords t 1).val = t.val % 22 := by decide +kernel

/-- The sample that a point works on. -/
abbrev smp (t : Fin cfg0.N) : Fin 4 := ⟨t.val / 22, by have := lt_88 t; omega⟩
/-- The row of the arguments that a point's row `r` is. -/
abbrev rw_ (t : Fin cfg0.N) (r : Fin 384) : Fin 8448 := ⟨t.val % 22 * 384 + r.val, by omega⟩

/-- The residual rows, at an index of a point's block. -/
theorem x_at (c : Dev nD) (t : Fin cfg0.N) (r : Fin 384) (l : Fin 1024) :
    iblk m c 0 t (ix3 (n0 := 1) (n1 := 384) (n2 := 1024) 0 r l)
      = m ((c : Thread nD τ).loc main_arg0) (ix3 (n0 := 4) (n1 := 8448) (n2 := 1024) (smp t) (rw_ t r) l) := by
  blk_simp [iblk]
  refine congrArg _ ?_
  blk_ext! [index0]

/-- The state space branch's forward rows, at an index of a point's block. -/
theorem yf_at (c : Dev nD) (t : Fin cfg0.N) (r : Fin 384) (l : Fin 1024) :
    iblk m c 2 t (ix3 (n0 := 1) (n1 := 384) (n2 := 1024) 0 r l)
      = m ((c : Thread nD τ).loc main_arg2) (ix3 (n0 := 4) (n1 := 8448) (n2 := 1024) (smp t) (rw_ t r) l) := by
  blk_simp [iblk]
  refine congrArg _ ?_
  blk_ext! [index2]

/-- Its backward rows, at an index of a point's block. -/
theorem yb_at (c : Dev nD) (t : Fin cfg0.N) (r : Fin 384) (l : Fin 1024) :
    iblk m c 3 t (ix3 (n0 := 1) (n1 := 384) (n2 := 1024) 0 r l)
      = m ((c : Thread nD τ).loc main_arg3) (ix3 (n0 := 4) (n1 := 8448) (n2 := 1024) (smp t) (rw_ t r) l) := by
  blk_simp [iblk]
  refine congrArg _ ?_
  blk_ext! [index3]

/-- Its gate, at an index of a point's block. -/
theorem zs_at (c : Dev nD) (t : Fin cfg0.N) (r : Fin 384) (l : Fin 1024) :
    X0_4 m c t (ix3 (n0 := 1) 0 r l)
      = m ((c : Thread nD τ).loc main_arg4) (ix3 (n0 := 4) (n1 := 8448) (n2 := 13824) (smp t) (rw_ t r) ⟨l.val, by omega⟩) := by
  unfold X0_4 Pipeline.Window.fill
  rw [dif_pos (moved0_4 t _)]
  blk_simp [iblk]
  refine congrArg _ ?_
  blk_ext! [index4]

/-- The attention branch's rows, at an index of a point's block. -/
theorem yd_at (c : Dev nD) (t : Fin cfg0.N) (r : Fin 384) (l : Fin 1024) :
    iblk m c 5 t (ix3 (n0 := 1) (n1 := 384) (n2 := 1024) 0 r l)
      = m ((c : Thread nD τ).loc main_arg5) (ix3 (n0 := 4) (n1 := 8448) (n2 := 1024) (smp t) (rw_ t r) l) := by
  blk_simp [iblk]
  refine congrArg _ ?_
  blk_ext! [index5]

/-- The recurrent branch's forward rows, at an index of a point's block. -/
theorem hf_at (c : Dev nD) (t : Fin cfg0.N) (r : Fin 384) (l : Fin 1024) :
    iblk m c 6 t (ix3 (n0 := 1) (n1 := 384) (n2 := 1024) 0 r l)
      = m ((c : Thread nD τ).loc main_arg6) (ix3 (n0 := 4) (n1 := 8448) (n2 := 1024) (smp t) (rw_ t r) l) := by
  blk_simp [iblk]
  refine congrArg _ ?_
  blk_ext! [index6]

/-- Its backward rows, at an index of a point's block. -/
theorem hb_at (c : Dev nD) (t : Fin cfg0.N) (r : Fin 384) (l : Fin 1024) :
    iblk m c 7 t (ix3 (n0 := 1) (n1 := 384) (n2 := 1024) 0 r l)
      = m ((c : Thread nD τ).loc main_arg7) (ix3 (n0 := 4) (n1 := 8448) (n2 := 1024) (smp t) (rw_ t r) l) := by
  blk_simp [iblk]
  refine congrArg _ ?_
  blk_ext! [index7]

/-- Its output gate, at an index of a point's block. -/
theorem mo_at (c : Dev nD) (t : Fin cfg0.N) (r : Fin 384) (l : Fin 1024) :
    X0_8 m c t (ix3 (n0 := 1) 0 r l)
      = m ((c : Thread nD τ).loc main_arg4) (ix3 (n0 := 4) (n1 := 8448) (n2 := 13824) (smp t) (rw_ t r) ⟨7168 + l.val, by omega⟩) := by
  unfold X0_8 Pipeline.Window.fill
  rw [dif_pos (moved0_8 t _)]
  blk_simp [iblk]
  refine congrArg _ ?_
  blk_ext! [index8]

/-- Its second gate, at an index of a point's block. -/
theorem mz_at (c : Dev nD) (t : Fin cfg0.N) (r : Fin 384) (l : Fin 1024) :
    X0_9 m c t (ix3 (n0 := 1) 0 r l)
      = m ((c : Thread nD τ).loc main_arg4) (ix3 (n0 := 4) (n1 := 8448) (n2 := 13824) (smp t) (rw_ t r) ⟨8192 + l.val, by omega⟩) := by
  unfold X0_9 Pipeline.Window.fill
  rw [dif_pos (moved0_9 t _)]
  blk_simp [iblk]
  refine congrArg _ ?_
  blk_ext! [index9]

/-- The gates of the merge, at an index of a point's block. -/
theorem gt_at (c : Dev nD) (t : Fin cfg0.N) (r : Fin 384) (l : Fin 3072) :
    X0_10 m c t (ix3 (n0 := 1) 0 r l)
      = m ((c : Thread nD τ).loc main_arg4) (ix3 (n0 := 4) (n1 := 8448) (n2 := 13824) (smp t) (rw_ t r) ⟨9216 + l.val, by omega⟩) := by
  unfold X0_10 Pipeline.Window.fill
  rw [dif_pos (moved0_10 t _)]
  blk_simp [iblk]
  refine congrArg _ ?_
  blk_ext! [index10]

/-- An argument staged whole. -/
theorem whole1 (c : Dev nD) (t : Fin cfg0.N) : iblk m c 1 t = m ((c : Thread nD τ).loc main_arg1) := by
  funext i
  blk_simp [iblk]
  refine congrArg _ ?_
  blk_ext! [index1]

/-- An argument staged whole. -/
theorem whole11 (c : Dev nD) (t : Fin cfg0.N) : iblk m c 11 t = m ((c : Thread nD τ).loc main_arg8) := by
  funext i
  blk_simp [iblk]
  refine congrArg _ ?_
  blk_ext! [index11]

/-- An argument staged whole. -/
theorem whole12 (c : Dev nD) (t : Fin cfg0.N) : iblk m c 12 t = m ((c : Thread nD τ).loc main_arg9) := by
  funext i
  blk_simp [iblk]
  refine congrArg _ ?_
  blk_ext! [index12]

/-- An argument staged whole. -/
theorem whole13 (c : Dev nD) (t : Fin cfg0.N) : iblk m c 13 t = m ((c : Thread nD τ).loc main_arg10) := by
  funext i
  blk_simp [iblk]
  refine congrArg _ ?_
  blk_ext! [index13]

/-- An argument staged whole. -/
theorem whole14 (c : Dev nD) (t : Fin cfg0.N) : iblk m c 14 t = m ((c : Thread nD τ).loc main_arg11) := by
  funext i
  blk_simp [iblk]
  refine congrArg _ ?_
  blk_ext! [index14]

/-! ## A point's output block -/

/-- A plane of the branch projections. -/
theorem plane_at (w : Vec Ideal S3x1024x1024 .bf16) (n : ℕ) (hn : n < 3) (inb) (l k : Fin 1024) :
    View.ld w (Rect.unit (s := S3x1024x1024) ![n, 0, 0] ![1, 1024, 1024] inb) (ix3 0 l k)
      = w (ix3 (n0 := 3) ⟨n, hn⟩ l k) := by
  refine View.ld_unit_apply_of _ _ _ _ _ _ fun a => ?_
  match a with
  | ⟨0, _⟩ => rfl
  | ⟨1, _⟩ => show l.val = 0 + l.val; omega
  | ⟨2, _⟩ => show k.val = 0 + k.val; omega

/-- The modulation row of a point's sample. -/
theorem mod_at (w : Vec Ideal S8x3072 .f32) (t : Fin cfg0.N) (inb) (j : Fin 1024) :
    View.ld w (Rect.unit (s := S8x3072) (k0_off1 (grid0.coords t)) ![1, 1024] inb) (ix2 0 j)
      = w (ix2 (n0 := 8) (n1 := 3072) ⟨(smp t).val, by omega⟩ ⟨2048 + j.val, by omega⟩) := by
  refine View.ld_unit_apply_of _ _ _ _ _ _ fun a => Eq.trans ?_ (congrArg (· + (ix2 (n0 := 1) (n1 := 1024) 0 j a).val) (congrFun (coord0 t) a).symm)
  match a with
  | ⟨0, _⟩ => rfl
  | ⟨1, _⟩ => rfl

/-- The modulation row of the context rows. -/
theorem ctx_at (w : Vec Ideal S8x3072 .f32) (inb) (j : Fin 1024) :
    View.ld w (Rect.unit (s := S8x3072) ![4, 2048] ![1, 1024] inb) (ix2 0 j)
      = w (ix2 (n0 := 8) (n1 := 3072) 4 ⟨2048 + j.val, by omega⟩) := by
  refine View.ld_unit_apply_of _ _ _ _ _ _ fun a => ?_
  match a with
  | ⟨0, _⟩ => rfl
  | ⟨1, _⟩ => rfl

/-- The gate of a point's row. -/
theorem gate_at (w : Vec Ideal S8x3072 .f32) (t : Fin cfg0.N) (inb inb') (r : Fin 384) (j : Fin 1024) :
    (if 8192 ≤ t.val % 22 * 384 + r.val then View.ld w (Rect.unit (s := S8x3072) ![4, 2048] ![1, 1024] inb)
        else View.ld w (Rect.unit (s := S8x3072) (k0_off1 (grid0.coords t)) ![1, 1024] inb')) (ix2 0 j)
      = w (ix2 (n0 := 8) (n1 := 3072) (mrow (smp t) (rw_ t r)) ⟨2048 + j.val, by omega⟩) := by
  by_cases h : 8192 ≤ t.val % 22 * 384 + r.val
  · simp only [mrow, if_pos h]
    exact ctx_at w inb j
  · simp only [mrow, if_neg h]
    exact mod_at w t inb' j

/-- What a point leaves in its output block, from the arguments. -/
theorem point_at (c : Dev nD) (t : Fin cfg0.N) (r : Fin 384) (j : Fin 1024) :
    outsAt0 m c t (ix3 0 r j)
      = mergedAll (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (smp t) (rw_ t r) j := by
  unfold outsAt0
  frame_out
  rw [pay1_apply, coord1, pay12_apply _ (by omega), gate_at, pay11_apply]
  simp only [pay2_apply, pay4_apply, pay3_apply, pay9_apply, pay5_apply, pay10_apply, sgk_eq]
  have e_x : ∀ l, iblk m c 0 t (ix3 (n0 := 1) (n1 := 384) (n2 := 1024) 0 r l) = _ := x_at m c t r
  have e_yf : ∀ l, iblk m c 2 t (ix3 (n0 := 1) (n1 := 384) (n2 := 1024) 0 r l) = _ := yf_at m c t r
  have e_yb : ∀ l, iblk m c 3 t (ix3 (n0 := 1) (n1 := 384) (n2 := 1024) 0 r l) = _ := yb_at m c t r
  have e_zs : ∀ l, X0_4 m c t (ix3 (n0 := 1) (n1 := 384) (n2 := 1024) 0 r l) = _ := zs_at m c t r
  have e_yd : ∀ l, iblk m c 5 t (ix3 (n0 := 1) (n1 := 384) (n2 := 1024) 0 r l) = _ := yd_at m c t r
  have e_hf : ∀ l, iblk m c 6 t (ix3 (n0 := 1) (n1 := 384) (n2 := 1024) 0 r l) = _ := hf_at m c t r
  have e_hb : ∀ l, iblk m c 7 t (ix3 (n0 := 1) (n1 := 384) (n2 := 1024) 0 r l) = _ := hb_at m c t r
  have e_mo : ∀ l, X0_8 m c t (ix3 (n0 := 1) (n1 := 384) (n2 := 1024) 0 r l) = _ := mo_at m c t r
  have e_mz : ∀ l, X0_9 m c t (ix3 (n0 := 1) (n1 := 384) (n2 := 1024) 0 r l) = _ := mz_at m c t r
  have e_gt : ∀ l, X0_10 m c t (ix3 (n0 := 1) (n1 := 384) (n2 := 3072) 0 r l) = _ := gt_at m c t r
  simp only [e_x, e_yf, e_yb, e_zs, e_yd, e_hf, e_hb, e_mo, e_mz, e_gt, whole1 m c t, whole11 m c t, whole12 m c t, whole13 m c t, whole14 m c t]
  refine congrArg₂ (· + ·) rfl (congrArg₂ (· * ·) rfl (Finset.sum_congr rfl fun k _ => congrArg (· * _) ?_))
  refine congrArg₂ (· + ·) (congrArg₂ (· + ·) ?_ ?_) ?_
  · exact congrArg (fun z : EReal => sg _ * z) (Finset.sum_congr rfl fun l _ => congrArg (fun z : EReal => (_ : EReal) * z) (plane_at _ 0 (by omega) _ l k))
  · exact congrArg (fun z : EReal => sg _ * z) (Finset.sum_congr rfl fun l _ => congrArg (fun z : EReal => (_ : EReal) * z) (plane_at _ 1 (by omega) _ l k))
  · exact congrArg (fun z : EReal => sg _ * z) (Finset.sum_congr rfl fun l _ => congrArg (fun z : EReal => (_ : EReal) * z) (plane_at _ 2 (by omega) _ l k))

/-- The layer's output at equal indices. -/
theorem mergedAll_congr (x : Act.Idx → EReal) (mod : (⟨2, ![8, 3072]⟩ : Shape).Idx → EReal) (yf yb : Act.Idx → EReal)
    (p : Big.Idx → EReal) (yd hf hb : Act.Idx → EReal) (sng mng : Scale.Idx → EReal)
    (wb : (⟨3, ![3, 1024, 1024]⟩ : Shape).Idx → EReal) (wo : (⟨2, ![1024, 1024]⟩ : Shape).Idx → EReal)
    {b b' : Fin 4} {R R' : Fin 8448} {j j' : Fin 1024} (h : b = b') (hR : R = R') (hj : j = j') :
    mergedAll x mod yf yb p yd hf hb sng mng wb wo b R j = mergedAll x mod yf yb p yd hf hb sng mng wb wo b' R' j' := by
  rw [h, hR, hj]

/-- The output array after the run, at an index. -/
theorem array_at (c : Dev nD) (i : S4x8448x1024.Idx) :
    (dats m 0 c).arrAt 15 cfg0.N i
      = mergedAll (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (i 0) (i 1) (i 2) := by
  have hi : (i 1).val < 8448 := (i 1).isLt
  refine ((dats m 0 c).arrAt_apply_of_coversWhere 15
    (fun i : S4x8448x1024.Idx =>
      mergedAll (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (i 0) (i 1) (i 2))
    (P := fun i : S4x8448x1024.Idx => (i 1).val / 384 < 22) (fun β => β (1 : Fin 3) < 22) (by decide +kernel)
    (fun t hf y => ?_) (fun j => Iff.rfl) i).trans (if_pos (by show (i 1).val / 384 < 22; omega))
  blk_simp
  rw [after0_15]
  have hy0 : (y 0).val < 1 := lt_of_lt_of_eq (y 0).isLt (xsize0_15 t 0)
  have hy1 : (y 1).val < 384 := lt_of_lt_of_eq (y 1).isLt (xsize0_15 t 1)
  have hy2 : (y 2).val < 1024 := lt_of_lt_of_eq (y 2).isLt (xsize0_15 t 2)
  have hx : (cfg0.win 15).xinj (cfg0.grid.coords t) y
      = ix3 (n0 := 1) (n1 := 384) (n2 := 1024) 0 ⟨(y 1).val, hy1⟩ ⟨(y 2).val, hy2⟩ := by
    funext a
    refine Fin.ext ?_
    match a with
    | ⟨0, _⟩ => show (y 0).val = 0; omega
    | ⟨1, _⟩ => rfl
    | ⟨2, _⟩ => rfl
  refine (congrArg (outsAt0 m c t) hx).trans ?_
  refine (point_at m c t _ _).trans ?_
  have hb : smp t = (win0_15.blk t).view.emb y 0 :=
    Fin.ext (by blk_simp [index15])
  have hr : rw_ t ⟨(y 1).val, hy1⟩ = (win0_15.blk t).view.emb y 1 :=
    Fin.ext (by blk_simp [index15])
  have hc : (⟨(y 2).val, hy2⟩ : Fin 1024) = (win0_15.blk t).view.emb y 2 :=
    Fin.ext (by blk_simp [index15])
  exact mergedAll_congr _ _ _ _ _ _ _ _ _ _ _ _ hb hr hc

end Cert.MergeAllIdeal.MergeValue

end
-- ==== Proof.MergeAll.Reference.lean ====
/- The reference of the merge of all the rows read at one index, over the extended reals. -/
module

public import proofs.«01_k».proof.Proof.Gen.MergeAllRefIdeal.Read
public import proofs.«01_k».proof.Proof.MergeAll.Layer
public import Idealize.ShloMosaic.Lib.Pointwise
public import Idealize.ShloMosaic.Lib.IdealHost

@[expose] public section

set_option maxRecDepth 16384

noncomputable section

namespace Cert.MergeAllRefIdeal.Read

open Cert.MergeAllRefIdeal Cert.MergeAllRefIdeal.Gen Cert.Merging Cert.MergingAll Cert.Projection Idealize.ShloMosaic

/-- The state space branch before its norm. -/
theorem ssm_at (a2 a3 : FVec Ideal S4x8448x1024 .bf16) (a4 : FVec Ideal S4x8448x13824 .bf16) (b : Fin 4) (row : Fin 8448)
    (l : Fin 1024) :
    val_main_v9 (F := Ideal) a2 a3 a4 (ix3 b row l) = ssm a2 a3 a4 b row l := by
  unfold ssm sg
  pointwise [val_main_v9, val_main_v8, val_main_v7, val_main_v6, val_main_v5, val_main_v4, val_main_v3, val_main_call0_v5, val_main_call0_v4, val_main_call0_v3, val_main_call0_v2, val_main_call0_v1,
    val_main_call0_v0, val_main_call0_cst, val_main_call0_cst_0]

/-- The state space branch. -/
theorem branchA_at (a2 a3 : FVec Ideal S4x8448x1024 .bf16) (a4 : FVec Ideal S4x8448x13824 .bf16) (a8 : FVec Ideal S1x1024 .f32)
    (b : Fin 4) (row : Fin 8448) (k : Fin 1024) :
    val_main_v23 (F := Ideal) a2 a3 a4 a8 (ix3 b row k) = branchA a2 a3 a4 a8 b row k := by
  unfold branchA rms
  simp only [← ssm_at]
  unfold val_main_v23 val_main_v20 val_main_v19 val_main_v18 val_main_v17 val_main_v15 val_main_v13 val_main_v12 val_main_v11
  generalize val_main_v9 (F := Ideal) a2 a3 a4 = y
  pointwise [val_main_v22, val_main_v21, val_main_v16, val_main_v14, val_main_v10, val_main_cst, val_main_cst_0, val_main_cst_1]

/-- The recurrent branch before its norm: lane `l` is lane `l mod 256` of head `l / 256`. -/
theorem recur_at (a4 : FVec Ideal S4x8448x13824 .bf16) (a6 a7 : FVec Ideal S4x8448x1024 .bf16) (b : Fin 4) (row : Fin 8448)
    (h : Fin 4) (l : Fin 256) :
    val_main_v37 (F := Ideal) a4 a6 a7 (ix4 b row h l) = recur a6 a7 a4 b row ⟨256 * h.val + l.val, by omega⟩ := by
  unfold recur sg
  pointwise [val_main_v37, val_main_v36, val_main_v35, val_main_v34, val_main_v33, val_main_v32, val_main_v31, val_main_v30,
    val_main_v29, val_main_v28, val_main_v27, val_main_v26, val_main_v25, val_main_v24,
    val_main_cst_2, val_main_cst_3]
  simp only [Nat.mul_comm h.val 256]

/-- The recurrent branch. -/
theorem branchC_at (a4 : FVec Ideal S4x8448x13824 .bf16) (a6 a7 : FVec Ideal S4x8448x1024 .bf16) (a9 : FVec Ideal S1x1024 .f32)
    (b : Fin 4) (row : Fin 8448) (k : Fin 1024) :
    val_main_v56 (F := Ideal) a4 a6 a7 a9 (ix3 b row k) = branchC a6 a7 a4 a9 b row k := by
  unfold branchC rms
  have e : (⟨256 * (k.val / 256) + k.val % 256, by omega⟩ : Fin 1024) = k := Fin.ext (by show 256 * (k.val / 256) + k.val % 256 = k.val; omega)
  have hk : recur a6 a7 a4 b row k
      = val_main_v37 (F := Ideal) a4 a6 a7 (ix4 b row ⟨k.val / 256, by omega⟩ ⟨k.val % 256, by omega⟩) := by
    rw [recur_at]; exact congrArg _ e.symm
  have hl : ∀ l : Fin 256, recur a6 a7 a4 b row ⟨256 * (k.val / 256) + l.val, by omega⟩
      = val_main_v37 (F := Ideal) a4 a6 a7 (ix4 b row ⟨k.val / 256, by omega⟩ l) := fun l =>
    (recur_at a4 a6 a7 b row ⟨k.val / 256, by omega⟩ l).symm
  simp only [hl]
  rw [hk]
  unfold val_main_v56 val_main_v52 val_main_v51 val_main_v48 val_main_v47 val_main_v46 val_main_v45 val_main_v43 val_main_v41
    val_main_v40 val_main_v39 sg
  generalize val_main_v37 (F := Ideal) a4 a6 a7 = y
  pointwise [val_main_v55, val_main_v54, val_main_v53, val_main_call1_v5, val_main_call1_v4, val_main_call1_v3,
    val_main_call1_v2, val_main_call1_v1, val_main_call1_v0, val_main_call1_cst, val_main_call1_cst_0, val_main_v50,
    val_main_v49, val_main_v44, val_main_v42, val_main_v38, val_main_cst_4, val_main_cst_5, val_main_cst_6]

/-- A gate of the merge. -/
theorem gate_at (a4 : FVec Ideal S4x8448x13824 .bf16) (b : Fin 4) (row : Fin 8448) (n : Fin 3) (k : Fin 1024) :
    val_main_v65 (F := Ideal) a4 (ix4 b row n k)
      = sg (a4 (ix3 b row ⟨9216 + (1024 * n.val + k.val), by omega⟩)) := by
  unfold sg
  pointwise [val_main_v65, val_main_v64, val_main_v63, val_main_v62, val_main_v61, val_main_v60, val_main_v59, val_main_v58,
    val_main_v57, val_main_cst_7, val_main_cst_8]
  simp only [Nat.mul_comm n.val 1024]

/-- The three branches projected and merged. -/
theorem mixed_at (a2 a3 : FVec Ideal S4x8448x1024 .bf16) (a4 : FVec Ideal S4x8448x13824 .bf16)
    (a5 a6 a7 : FVec Ideal S4x8448x1024 .bf16) (a8 a9 : FVec Ideal S1x1024 .f32) (a10 : FVec Ideal S3x1024x1024 .bf16)
    (b : Fin 4) (row : Fin 8448) (k : Fin 1024) :
    val_main_v87 (F := Ideal) a2 a3 a4 a5 a6 a7 a8 a9 a10 (ix3 b row k)
      = mixed a2 a3 a4 a5 a6 a7 a8 a9 a10 b row k := by
  have g0 : sg (a4 (ix3 b row ⟨9216 + k.val, by omega⟩)) = val_main_v65 (F := Ideal) a4 (ix4 b row 0 k) := by
    rw [gate_at]; exact congrArg (fun z => sg (a4 (ix3 b _ z))) (Fin.ext (by show 9216 + k.val = 9216 + (1024 * 0 + k.val); omega))
  have g1 : sg (a4 (ix3 b row ⟨9216 + (1024 + k.val), by omega⟩)) = val_main_v65 (F := Ideal) a4 (ix4 b row 1 k) := by
    rw [gate_at]; exact congrArg (fun z => sg (a4 (ix3 b _ z))) (Fin.ext (by show 9216 + (1024 + k.val) = 9216 + (1024 * 1 + k.val); omega))
  have g2 : sg (a4 (ix3 b row ⟨9216 + (2048 + k.val), by omega⟩)) = val_main_v65 (F := Ideal) a4 (ix4 b row 2 k) := by
    rw [gate_at]; exact congrArg (fun z => sg (a4 (ix3 b _ z))) (Fin.ext (by show 9216 + (2048 + k.val) = 9216 + (1024 * 2 + k.val); omega))
  unfold mixed
  rw [g0, g1, g2]
  simp only [← branchA_at, ← branchC_at]
  unfold val_main_v87 val_main_v86 val_main_v85 val_main_v82 val_main_v81 val_main_v80 val_main_v79 val_main_v78 val_main_v74
    val_main_v73 val_main_v72 val_main_v71 val_main_v68 val_main_v67
  generalize val_main_v23 (F := Ideal) a2 a3 a4 a8 = yA
  generalize val_main_v56 (F := Ideal) a4 a6 a7 a9 = yC
  generalize val_main_v65 (F := Ideal) a4 = g
  pointwise [val_main_v84, val_main_v83, val_main_v77, val_main_v76, val_main_v75, val_main_v70, val_main_v69,
    val_main_v66]

/-- The output projection. -/
theorem out_at (a2 a3 : FVec Ideal S4x8448x1024 .bf16) (a4 : FVec Ideal S4x8448x13824 .bf16)
    (a5 a6 a7 : FVec Ideal S4x8448x1024 .bf16) (a8 a9 : FVec Ideal S1x1024 .f32) (a10 : FVec Ideal S3x1024x1024 .bf16)
    (a11 : FVec Ideal S1024x1024 .bf16) (b : Fin 4) (row : Fin 8448) (j : Fin 1024) :
    val_main_v89 (F := Ideal) a2 a3 a4 a5 a6 a7 a8 a9 a10 a11 (ix3 b row j)
      = ∑ k : Fin 1024, mixed a2 a3 a4 a5 a6 a7 a8 a9 a10 b row k * a11 (ix2 k j) := by
  simp only [← mixed_at]
  unfold val_main_v89
  generalize val_main_v87 (F := Ideal) a2 a3 a4 a5 a6 a7 a8 a9 a10 = y
  pointwise [val_main_v88]

/-- A latent row of the result. -/
theorem latent_at (a0 : FVec Ideal S4x8448x1024 .f32) (a1 : FVec Ideal S8x3072 .f32) (a2 a3 : FVec Ideal S4x8448x1024 .bf16)
    (a4 : FVec Ideal S4x8448x13824 .bf16) (a5 a6 a7 : FVec Ideal S4x8448x1024 .bf16) (a8 a9 : FVec Ideal S1x1024 .f32)
    (a10 : FVec Ideal S3x1024x1024 .bf16) (a11 : FVec Ideal S1024x1024 .bf16) (b : Fin 4) (row : Fin 8192) (j : Fin 1024) :
    val_main_v96 (F := Ideal) a0 a1 a2 a3 a4 a5 a6 a7 a8 a9 a10 a11 (ix3 b row j)
      = mergedAll a0 a1 a2 a3 a4 a5 a6 a7 a8 a9 a10 a11 b ⟨row.val, by omega⟩ j := by
  have h : ¬8192 ≤ row.val := by omega
  unfold mergedAll
  simp only [mrow, if_neg h]
  rw [← out_at]
  unfold val_main_v96 val_main_v95 val_main_v93
  generalize val_main_v89 (F := Ideal) a2 a3 a4 a5 a6 a7 a8 a9 a10 a11 = y
  pointwise [val_main_v94, val_main_v92, val_main_v91, val_main_v90, val_main_v2]

/-- A context row of the result. -/
theorem context_at (a0 : FVec Ideal S4x8448x1024 .f32) (a1 : FVec Ideal S8x3072 .f32) (a2 a3 : FVec Ideal S4x8448x1024 .bf16)
    (a4 : FVec Ideal S4x8448x13824 .bf16) (a5 a6 a7 : FVec Ideal S4x8448x1024 .bf16) (a8 a9 : FVec Ideal S1x1024 .f32)
    (a10 : FVec Ideal S3x1024x1024 .bf16) (a11 : FVec Ideal S1024x1024 .bf16) (b : Fin 4) (row : Fin 256) (j : Fin 1024) :
    val_main_v104 (F := Ideal) a0 a1 a2 a3 a4 a5 a6 a7 a8 a9 a10 a11 (ix3 b row j)
      = mergedAll a0 a1 a2 a3 a4 a5 a6 a7 a8 a9 a10 a11 b ⟨8192 + row.val, by omega⟩ j := by
  have h : 8192 ≤ 8192 + row.val := by omega
  unfold mergedAll
  simp only [mrow, if_pos h]
  rw [← out_at]
  unfold val_main_v104 val_main_v103 val_main_v100
  generalize val_main_v89 (F := Ideal) a2 a3 a4 a5 a6 a7 a8 a9 a10 a11 = y
  pointwise [val_main_v102, val_main_v101, val_main_v99, val_main_v98, val_main_v97, val_main_v2]

/-- The reference's result. -/
theorem merged_at (a0 : FVec Ideal S4x8448x1024 .f32) (a1 : FVec Ideal S8x3072 .f32) (a2 a3 : FVec Ideal S4x8448x1024 .bf16)
    (a4 : FVec Ideal S4x8448x13824 .bf16) (a5 a6 a7 : FVec Ideal S4x8448x1024 .bf16) (a8 a9 : FVec Ideal S1x1024 .f32)
    (a10 : FVec Ideal S3x1024x1024 .bf16) (a11 : FVec Ideal S1024x1024 .bf16) (b : Fin 4) (row : Fin 8448) (j : Fin 1024) :
    val_main_v105 (F := Ideal) a0 a1 a2 a3 a4 a5 a6 a7 a8 a9 a10 a11 (ix3 b row j)
      = mergedAll a0 a1 a2 a3 a4 a5 a6 a7 a8 a9 a10 a11 b row j := by
  unfold val_main_v105
  by_cases h : row.val < 8192
  · refine Eq.trans ?_ (latent_at a0 a1 a2 a3 a4 a5 a6 a7 a8 a9 a10 a11 b ⟨row.val, h⟩ j)
    generalize val_main_v96 (F := Ideal) a0 a1 a2 a3 a4 a5 a6 a7 a8 a9 a10 a11 = y
    generalize val_main_v104 (F := Ideal) a0 a1 a2 a3 a4 a5 a6 a7 a8 a9 a10 a11 = z
    pointwise
    exact dif_pos h
  · refine Eq.trans ?_ ((context_at a0 a1 a2 a3 a4 a5 a6 a7 a8 a9 a10 a11 b ⟨row.val - 8192, by omega⟩ j).trans
      (congrArg (fun R => mergedAll a0 a1 a2 a3 a4 a5 a6 a7 a8 a9 a10 a11 b R j)
        (Fin.ext (by show 8192 + (row.val - 8192) = row.val; omega))))
    generalize val_main_v96 (F := Ideal) a0 a1 a2 a3 a4 a5 a6 a7 a8 a9 a10 a11 = y
    generalize val_main_v104 (F := Ideal) a0 a1 a2 a3 a4 a5 a6 a7 a8 a9 a10 a11 = z
    pointwise
    exact dif_neg h

end Cert.MergeAllRefIdeal.Read

end
-- ==== Proof.MergeAll.Claims.lean ====
/- The claims about the merge of all the rows: its two frames, the reference's frame, the named constant, and the equality of
   the call's output and the reference's result. -/
module

public import proofs.«01_k».proof.Defs
public import proofs.«01_k».proof.Proof.MergeAll.Array
public import proofs.«01_k».proof.Proof.MergeAll.Reference
public import proofs.«01_k».proof.Proof.Gen.MergeAll.Frame
public import proofs.«01_k».proof.Proof.Gen.MergeAllIdeal.Value
public import proofs.«01_k».proof.Proof.Gen.MergeAllRefIdeal.Run
public import Idealize.ShloMosaic.Lib.Quiescent

@[expose] public section

set_option maxRecDepth 16384

noncomputable section

namespace Cert.MergingAll

open Idealize.ShloMosaic Idealize.SL.Sem

/-- The merge of all the rows as printed runs, keeps its arguments and leaves every counter at zero. -/
theorem frame_p : Cert.quiescent_MergeAll := fun m ρ _ => Cert.MergeAll.Gen.frame m ρ

/-- So does its idealization. -/
theorem frame_pi : Cert.quiescent_MergeAllIdeal := fun m ρ _ => Cert.MergeAllIdeal.Gen.frame m ρ

/-- Its reference runs, keeps its arguments and leaves every counter at zero. -/
theorem frame_ri : Cert.quiescent_MergeAllRefIdeal := fun m ρ _ =>
  (θ_run Cert.MergeAllRefIdeal.defs _ _).mono (fun r h => ⟨fun c => (h c).2, sem_eq_zero_of_no_sems (by decide) r.2⟩)
    (Cert.MergeAllRefIdeal.Value.run (F := Ideal) m ρ)

/-- The named constant is minus the logarithm of `e` to the base two, that is minus the inverse of the logarithm of two. -/
theorem preserves : Cert.preserves_MergeAll_MergeAllIdeal :=
  IdealRules.named_const.statement Cert.MergeAllIdeal.κ "neg_log2e" .f32 0xBFB8AA3B#32 ((-((Real.log 2)⁻¹) : ℝ) : EReal) rfl

/-- The call's output and the reference's result are equal at every index. -/
theorem algebraic : Cert.algebraic_MergeAllIdeal_MergeAllRefIdeal := by
  intro m ρ m' ρ' _ hagree
  refine ⟨fun c => (Cert.MergeAllIdeal.Gen.dats m 0 c).arrAt 15 Cert.MergeAllIdeal.cfg0.N, ?_, ?_⟩
  · exact Cert.MergeAllIdeal.Value.run_blocks (F := Ideal) m ρ
  · refine (θ_run Cert.MergeAllRefIdeal.defs _ _).mono (fun r h c => ⟨funext fun i => ?_, (h c).2⟩)
      (Cert.MergeAllRefIdeal.Value.run (F := Ideal) m' ρ')
    obtain ⟨e0, e1, e2, e3, e4, e5, e6, e7, e8, e9, e10, e11⟩ := hagree c
    rw [congrFun (h c).1 i, Cert.MergeAllRefIdeal.Read.val_main_v105_eq, e0, e1, e2, e3, e4, e5, e6, e7, e8, e9, e10, e11]
    refine Eq.trans ?_ (Cert.MergeAllIdeal.MergeValue.array_at m c i).symm
    refine Eq.trans ?_ (Cert.MergeAllRefIdeal.Read.merged_at _ _ _ _ _ _ _ _ _ _ _ _ (i 0) (i 1) (i 2))
    exact congrArg _ (eq_ix3 i)

end Cert.MergingAll

end
-- ==== Proof.lean ====
module

public import proofs.«01_k».proof.Defs
public import proofs.«01_k».proof.Proof.Attn.Claims
public import proofs.«01_k».proof.Proof.InProj.Claims
public import proofs.«01_k».proof.Proof.Merge.Claims
public import proofs.«01_k».proof.Proof.MergeAll.Claims
public import proofs.«01_k».proof.Proof.Gen.Kernel
public import proofs.«01_k».proof.Proof.Gen.KernelIdeal
public import proofs.«01_k».proof.Proof.Gen.ReferenceIdeal
public import proofs.«01_k».proof.Proof.Gen.InProj
public import proofs.«01_k».proof.Proof.Gen.InProj.Launch
public import proofs.«01_k».proof.Proof.Gen.InProj.Points
public import proofs.«01_k».proof.Proof.Gen.InProj.Skeleton
public import proofs.«01_k».proof.Proof.Gen.InProjIdeal
public import proofs.«01_k».proof.Proof.Gen.InProjIdeal.Launch
public import proofs.«01_k».proof.Proof.Gen.InProjIdeal.Points
public import proofs.«01_k».proof.Proof.Gen.InProjIdeal.Skeleton
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Merge
public import proofs.«01_k».proof.Proof.Gen.MergeIdeal
public import proofs.«01_k».proof.Proof.Gen.MergeRefIdeal
public import proofs.«01_k».proof.Proof.Gen.MergeAll
public import proofs.«01_k».proof.Proof.Gen.MergeAll.Frame
public import proofs.«01_k».proof.Proof.Gen.MergeAllIdeal
public import proofs.«01_k».proof.Proof.Gen.MergeAllIdeal.Value
public import proofs.«01_k».proof.Proof.Gen.MergeAllRefIdeal
public import proofs.«01_k».proof.Proof.Gen.MergeAllRefIdeal.Run
public import proofs.«01_k».proof.Proof.Gen.MergeAllRefIdeal.Read
public import proofs.«01_k».proof.Proof.Gen.Pre_finite
public import proofs.«01_k».proof.Proof.Gen.On_latent_rows
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.InProj.Gen.facts,
    Cert.InProjIdeal.Gen.facts, Cert.InProjRefIdeal.Gen.facts, Cert.Merge.Gen.facts, Cert.MergeIdeal.Gen.facts,
    Cert.MergeRefIdeal.Gen.facts, Cert.MergeAll.Gen.facts, Cert.MergeAllIdeal.Gen.facts, Cert.MergeAllRefIdeal.Gen.facts,
    Cert.Pre_finite.Gen.facts, Cert.On_latent_rows.Gen.facts,
    Cert.Attention.frame_p, Cert.Attention.frame_pi, Cert.Attention.frame_pi_finite, Cert.Attention.frame_ri,
    Cert.Attention.frame_ri_finite, Cert.Projection.frame_p, Cert.Projection.frame_pi, Cert.Projection.frame_ri,
    Cert.Merging.frame_p, Cert.Merging.frame_pi, Cert.Merging.frame_ri,
    Cert.MergingAll.frame_p, Cert.MergingAll.frame_pi, Cert.MergingAll.frame_ri,
    Cert.Attention.preserves, Cert.Attention.algebraic, Cert.Projection.preserves, Cert.Projection.algebraic,
    Cert.Merging.preserves, Cert.Merging.algebraic,
    Cert.MergingAll.preserves, Cert.MergingAll.algebraic⟩

end Cert.Proof

end
